-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![65536, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S2x1024 : Shape := ⟨2, ![2, 1024]⟩
abbrev S1024x1024 : Shape := ⟨2, ![1024, 1024]⟩
abbrev S8x2x1024 : Shape := ⟨3, ![8, 2, 1024]⟩
abbrev S7 : Shape := ⟨1, ![7]⟩
abbrev S_ : Shape := ⟨0, ![]⟩
abbrev S1024 : Shape := ⟨1, ![1024]⟩
abbrev S1x1024 : Shape := ⟨2, ![1, 1024]⟩
abbrev S1x1x1024 : Shape := ⟨3, ![1, 1, 1024]⟩
abbrev S1 : Shape := ⟨1, ![1]⟩
abbrev S1x2x1024 : Shape := ⟨3, ![1, 2, 1024]⟩
abbrev S8x1x1024 : Shape := ⟨3, ![8, 1, 1024]⟩
abbrev S8x1024 : Shape := ⟨2, ![8, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .local _ .vmem, ⟨0, _⟩ => ⟨S1024x1024, .f32⟩
  | .local _ .vmem, ⟨1, _⟩ => ⟨S1024x1024, .f32⟩
  | .local _ .vmem, ⟨2, _⟩ => ⟨S2x1024, .f32⟩
  | .local _ .vmem, ⟨3, _⟩ => ⟨S8x2x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2
abbrev barrier0 : Sem sig := 0

abbrev nD : Nat := 8
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_dev1 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v33 : BitVec 32 := Scalar.addi v2 c1_i32_9
  let c8_i32_10 : BitVec 32 := 8#32
  let v34 : BitVec 32 := Scalar.remsi v33 c8_i32_10
  let c1_i32_12 : BitVec 32 := 1#32
  let v35 : BitVec 32 := Scalar.muli v34 c1_i32_12
  let v36 : BitVec 32 := Scalar.addi c0_i32_13 v35
  v36.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v37 : BitVec 32 := Scalar.addi v2 c2_i32
  let c8_i32_14 : BitVec 32 := 8#32
  let v38 : BitVec 32 := Scalar.remsi v37 c8_i32_14
  let c1_i32_16 : BitVec 32 := 1#32
  let v39 : BitVec 32 := Scalar.muli v38 c1_i32_16
  let v40 : BitVec 32 := Scalar.addi c0_i32_17 v39
  v40.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v41 : BitVec 32 := Scalar.addi v2 c3_i32
  let c8_i32_18 : BitVec 32 := 8#32
  let v42 : BitVec 32 := Scalar.remsi v41 c8_i32_18
  let c1_i32_20 : BitVec 32 := 1#32
  let v43 : BitVec 32 := Scalar.muli v42 c1_i32_20
  let v44 : BitVec 32 := Scalar.addi c0_i32_21 v43
  v44.toNat
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v45 : BitVec 32 := Scalar.addi v2 c4_i32
  let c8_i32_22 : BitVec 32 := 8#32
  let v46 : BitVec 32 := Scalar.remsi v45 c8_i32_22
  let c1_i32_24 : BitVec 32 := 1#32
  let v47 : BitVec 32 := Scalar.muli v46 c1_i32_24
  let v48 : BitVec 32 := Scalar.addi c0_i32_25 v47
  v48.toNat
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v49 : BitVec 32 := Scalar.addi v2 c5_i32
  let c8_i32_26 : BitVec 32 := 8#32
  let v50 : BitVec 32 := Scalar.remsi v49 c8_i32_26
  let c1_i32_28 : BitVec 32 := 1#32
  let v51 : BitVec 32 := Scalar.muli v50 c1_i32_28
  let v52 : BitVec 32 := Scalar.addi c0_i32_29 v51
  v52.toNat
def k0_dev6 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v53 : BitVec 32 := Scalar.addi v2 c6_i32
  let c8_i32_30 : BitVec 32 := 8#32
  let v54 : BitVec 32 := Scalar.remsi v53 c8_i32_30
  let c1_i32_32 : BitVec 32 := 1#32
  let v55 : BitVec 32 := Scalar.muli v54 c1_i32_32
  let v56 : BitVec 32 := Scalar.addi c0_i32_33 v55
  v56.toNat
def k0_dev7 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_34 : BitVec 32 := 7#32
  let v57 : BitVec 32 := Scalar.addi v2 c7_i32_34
  let c8_i32_35 : BitVec 32 := 8#32
  let v58 : BitVec 32 := Scalar.remsi v57 c8_i32_35
  let c1_i32_37 : BitVec 32 := 1#32
  let v59 : BitVec 32 := Scalar.muli v58 c1_i32_37
  let v60 : BitVec 32 := Scalar.addi c0_i32_38 v59
  v60.toNat
def k0_cond4 (i : grid0.Coords) : BitVec 1 :=
  let arg0 : BitVec 32 := BitVec.ofNat 32 (i 0).val
  let c7_i32 : BitVec 32 := 7#32
  let v30 : BitVec 1 := Scalar.cmpi .eq arg0 c7_i32
  let v31 : BitVec 32 := Scalar.extui v30
  let c0_i32_8 : BitVec 32 := 0#32
  let v32 : BitVec 1 := Scalar.cmpi .ne v31 c0_i32_8
  v32

def k0_dev8 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v33 : BitVec 32 := Scalar.addi v2 c1_i32_10
  let c8_i32_11 : BitVec 32 := 8#32
  let v34 : BitVec 32 := Scalar.remsi v33 c8_i32_11
  let c1_i32_16 : BitVec 32 := 1#32
  let v35 : BitVec 32 := Scalar.muli v34 c1_i32_16
  let v36 : BitVec 32 := Scalar.addi c0_i32_17 v35
  v36.toNat
def k0_dev9 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v45 : BitVec 32 := Scalar.addi v2 c2_i32
  let c8_i32_22 : BitVec 32 := 8#32
  let v46 : BitVec 32 := Scalar.remsi v45 c8_i32_22
  let c1_i32_26 : BitVec 32 := 1#32
  let v47 : BitVec 32 := Scalar.muli v46 c1_i32_26
  let v48 : BitVec 32 := Scalar.addi c0_i32_27 v47
  v48.toNat
def k0_dev10 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v57 : BitVec 32 := Scalar.addi v2 c3_i32
  let c8_i32_32 : BitVec 32 := 8#32
  let v58 : BitVec 32 := Scalar.remsi v57 c8_i32_32
  let c1_i32_36 : BitVec 32 := 1#32
  let v59 : BitVec 32 := Scalar.muli v58 c1_i32_36
  let v60 : BitVec 32 := Scalar.addi c0_i32_37 v59
  v60.toNat
def k0_dev11 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v69 : BitVec 32 := Scalar.addi v2 c4_i32
  let c8_i32_42 : BitVec 32 := 8#32
  let v70 : BitVec 32 := Scalar.remsi v69 c8_i32_42
  let c1_i32_47 : BitVec 32 := 1#32
  let v71 : BitVec 32 := Scalar.muli v70 c1_i32_47
  let v72 : BitVec 32 := Scalar.addi c0_i32_48 v71
  v72.toNat
def k0_dev12 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_53 : BitVec 32 := 5#32
  let v81 : BitVec 32 := Scalar.addi v2 c5_i32_53
  let c8_i32_54 : BitVec 32 := 8#32
  let v82 : BitVec 32 := Scalar.remsi v81 c8_i32_54
  let c1_i32_59 : BitVec 32 := 1#32
  let v83 : BitVec 32 := Scalar.muli v82 c1_i32_59
  let v84 : BitVec 32 := Scalar.addi c0_i32_60 v83
  v84.toNat
def k0_dev13 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_65 : BitVec 32 := 6#32
  let v93 : BitVec 32 := Scalar.addi v2 c6_i32_65
  let c8_i32_66 : BitVec 32 := 8#32
  let v94 : BitVec 32 := Scalar.remsi v93 c8_i32_66
  let c1_i32_71 : BitVec 32 := 1#32
  let v95 : BitVec 32 := Scalar.muli v94 c1_i32_71
  let v96 : BitVec 32 := Scalar.addi c0_i32_72 v95
  v96.toNat
def k0_dev14 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_77 : BitVec 32 := 7#32
  let v105 : BitVec 32 := Scalar.addi v2 c7_i32_77
  let c8_i32_78 : BitVec 32 := 8#32
  let v106 : BitVec 32 := Scalar.remsi v105 c8_i32_78
  let c1_i32_83 : BitVec 32 := 1#32
  let v107 : BitVec 32 := Scalar.muli v106 c1_i32_83
  let v108 : BitVec 32 := Scalar.addi c0_i32_84 v107
  v108.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S65536x1024 : Shape := ⟨2, ![65536, 1024]⟩
abbrev S_ : Shape := ⟨0, ![]⟩
abbrev S1024 : Shape := ⟨1, ![1024]⟩
abbrev S1x1024 : Shape := ⟨2, ![1, 1024]⟩
abbrev S2x1024 : Shape := ⟨2, ![2, 1024]⟩

abbrev nBuf : Space → Nat
  | .hbm => 12
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .i32⟩
  | .hbm, ⟨2, _⟩ => ⟨S_, .f32⟩
  | .hbm, ⟨3, _⟩ => ⟨S_, .i32⟩
  | .hbm, ⟨4, _⟩ => ⟨S1024, .f32⟩
  | .hbm, ⟨5, _⟩ => ⟨S1024, .i32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S2x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.WireI.lean ====
/-
# The exchange of the eight devices: memory views, contents and the protocol

Each device keeps a gather buffer of eight slots. Slot 0 holds the device's own running (maximum, index) rows; slot `d`
receives the finished rows of the device `d` places further round the mesh. A device first tells its seven peers that its
slots may be written (the barrier semaphore), then, after its last block, sends its slot 0 to every peer, and waits for the
seven arrivals and the seven departures before it reads the buffer.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdxCore
public import Idealize.ShloMosaic.Lib.Pipeline.ValueKit.Geometry
public import Idealize.ShloMosaic.Lib.Ring
public import Idealize.ShloMosaic.Lib.Transfers

@[expose] public section

set_option maxRecDepth 16384

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy of the rounds and the exchange's, whose duties are the seven offsets -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## The mesh of eight devices -/

set_option backward.proofsInPublic true in
/-- The device `d` places further round the mesh. -/
def nbr (c : Dev nD) (d : Fin 8) : Dev nD := ⟨(c.val + d.val) % 8, Nat.mod_lt _ (by decide)⟩

/-- The peer at offset `j + 1`. -/
abbrev peer (c : Dev nD) (j : Fin 7) : Dev nD := nbr c j.succ

theorem nbr_zero (c : Dev nD) : nbr c 0 = c := by revert c; decide
theorem peer_rev (c : Dev nD) (j : Fin 7) : peer (peer c j) j.rev = c := by revert c j; decide
theorem rev_peer (c : Dev nD) (j : Fin 7) : peer (peer c j.rev) j = c := by revert c j; decide

/-- The mesh turned by offset `j + 1`. -/
def turn (j : Fin 7) : Dev nD ≃ Dev nD := ⟨fun c => peer c j, fun c => peer c j.rev, fun c => peer_rev c j, fun c => rev_peer c j⟩

theorem peer_eq_iff (c d : Dev nD) (j : Fin 7) : Iff (peer d j = c) (d = peer c j.rev) :=
  ⟨fun h => by rw [← h, peer_rev], fun h => by rw [h, rev_peer]⟩

/-! ## Memory views and cells -/

abbrev gM : Memref sig .tc .vmem S8x2x1024 .f32 := Memref.whole cc0_scratch0

set_option backward.proofsInPublic true in
theorem slot_inb (d : Fin 8) : ∀ a, (![d.val, 0, 0] : Fin 3 → ℕ) a + S1x2x1024.size a ≤ S8x2x1024.size a := by
  revert d; decide

/-- The rectangle of slot `d` in the gather buffer. -/
abbrev slotR (d : Fin 8) : Rect S8x2x1024 := Rect.unit (s := S8x2x1024) ![d.val, 0, 0] S1x2x1024.size (slot_inb d)

/-- Slot `d` of the gather buffer: two rows of 1024. -/
abbrev slotM (d : Fin 8) : Memref sig .tc .vmem S2x1024 .f32 :=
  (gM.slice (slotR d) (fun _ => rfl)).squeeze S2x1024 squeezes_S1x2x1024_S2x1024

set_option backward.proofsInPublic true in
theorem sem_inb (j : Fin 7) : ∀ a, (![j.val] : Fin 1 → ℕ) a + S1.size a ≤ S7.size a := by
  revert j; decide

abbrev sendSem (j : Fin 7) : DmaSem sig := ((cc0_scratch1.slice (Rect.unit (s := S7) ![j.val] S1.size (sem_inb j))).squeeze S_ squeezes_S1_S_).sem
abbrev recvSem (j : Fin 7) : DmaSem sig := ((cc0_scratch2.slice (Rect.unit (s := S7) ![j.val] S1.size (sem_inb j))).squeeze S_ squeezes_S1_S_).sem
abbrev barS : Sem sig := (SemArray.scalar (sig.barrier 0 rfl) : Sems sig S_).sem

/-- The exchange's own semaphores: the barrier, and for each offset a send and a receive semaphore. -/
abbrev osem : Bool × Fin 7 → SemLoc sig := fun k => if k.1 then .dma (recvSem k.2) else .dma (sendSem k.2)
abbrev csem : Option (Bool × Fin 7) → SemLoc sig := fun k => match k with
  | none => .reg barS
  | some k => osem k

abbrev barCell (c : Dev nD) : GSem nD τ sig := ((c : Thread nD τ), .reg barS)
abbrev sendCell (c : Dev nD) (j : Fin 7) : GSem nD τ sig := ((c : Thread nD τ), .dma (sendSem j))
abbrev recvCell (c : Dev nD) (j : Fin 7) : GSem nD τ sig := ((c : Thread nD τ), .dma (recvSem j))
abbrev kcell (ck : Dev nD × Option (Bool × Fin 7)) : GSem nD τ sig := ((ck.1 : Thread nD τ), csem ck.2)

theorem sendSem_inj : ∀ j j' : Fin 7, sendSem j = sendSem j' → j = j' := by decide +kernel
theorem recvSem_inj : ∀ j j' : Fin 7, recvSem j = recvSem j' → j = j' := by decide +kernel
theorem send_ne_recv' : ∀ j j' : Fin 7, sendSem j ≠ recvSem j' := by decide +kernel
theorem send_ne_recv (j j' : Fin 7) : (SemLoc.dma (sendSem j) : SemLoc sig) ≠ .dma (recvSem j') :=
  fun h => send_ne_recv' j j' (SemLoc.dma.inj h)
theorem send_ne_bar (j : Fin 7) : (SemLoc.dma (sendSem j) : SemLoc sig) ≠ .reg barS := fun h => by cases h
theorem recv_ne_bar (j : Fin 7) : (SemLoc.dma (recvSem j) : SemLoc sig) ≠ .reg barS := fun h => by cases h

/-- The credit of one transfer: a slot's. -/
abbrev N : ℕ := (slotM 0).view.dmaCredit
theorem N_pos : 0 < N := View.dmaCredit_pos _ (by decide)
theorem N_eq (d : Fin 8) : (slotM d).view.dmaCredit = N := rfl

/-! ## Contents -/

set_option backward.proofsInPublic true in
/-- Grid point `t` (taken modulo the grid's eight points). -/
def pt (t : ℕ) : Fin cfg0.N := ⟨t % 8, by rw [show cfg0.N = 8 from N_0]; exact Nat.mod_lt _ (by decide)⟩

theorem pt_val (t : Fin cfg0.N) : pt t.val = t :=
  Fin.ext (Nat.mod_eq_of_lt (lt_of_lt_of_eq t.isLt N_0))

/-- Block `t` of device `c`'s rows of `x`. -/
def xb (c : Dev nD) (t : ℕ) : Vec F S1024x1024 .f32 :=
  (win0_0.blk (pt t)).view.read (Elt F) ((s₀ m ρ).mem ((c : Thread nD τ).loc main_arg0))

/-- The running maximum after block `t`. -/
def accV (c : Dev nD) : ℕ → Vec F S1x1x1024 .f32
  | 0 => k0_pay4 (xb m ρ c 0)
  | t + 1 => k0_pay8 (xb m ρ c (t + 1)) (accV c t)

/-- The running index after block `t`. -/
def accI (c : Dev nD) : ℕ → Vec F S1x1x1024 .f32
  | 0 => k0_pay5 (grid0.coords (pt 0)) c (xb m ρ c 0)
  | t + 1 => k0_pay9 (grid0.coords (pt (t + 1))) c (xb m ρ c (t + 1)) (accV m ρ c t) (accI c t)

abbrev GBuf (F : FTy → Type) : Type := (cc0_scratch0 : Ref sig .tc).ty.Contents (Elt F)

/-- The index of a single row at a column. -/
def rowIx (k : Fin 1024) : S1x1x1024.Idx := ValueIdx.ix3 (0 : Fin 1) (0 : Fin 1) k

/-- Device `c`'s pair of rows after block `t`, as contents of any slot. -/
def locB (c : Dev nD) (t : ℕ) : GBuf F := fun i =>
  if (i 1).val = 0 then accV m ρ c t (rowIx (i 2)) else accI m ρ c t (rowIx (i 2))

/-- The gather buffer of device `c` when every peer's rows have landed. -/
def gathered (c : Dev nD) : GBuf F := fun i => locB m ρ (nbr c (i 0)) 7 i

theorem slot_set (d : Fin 8) : (slotM d).view.set = (slotR d).set :=
  (View.set_reshape _ _).trans (View.set_slice_whole _ _)

/-- An index of the buffer lies in slot `d` when its first coordinate is `d`. -/
theorem mem_slot (d : Fin 8) (i : S8x2x1024.Idx) : Iff (i ∈ (slotR d).set) (i 0 = d) := by
  rw [Rect.mem_set_unit]
  have h1 : (i 1).val < 2 := (i 1).isLt
  have h2 : (i 2).val < 1024 := (i 2).isLt
  constructor
  · intro h
    have := h 0
    simp at this
    exact Fin.ext (by omega)
  · rintro rfl a
    fin_cases a <;> simp
    · exact h1
    · exact h2

/-- Where element `x` of slot `d` lies: slot `d`, the same row and column as in slot 0. -/
theorem slot_emb_0 (d : Fin 8) (x : S2x1024.Idx) : ((slotM d).view.emb x : S8x2x1024.Idx) 0 = d :=
  (mem_slot d _).mp (by rw [← slot_set d]; exact View.emb_mem_set _ _)
theorem slot_emb_1 (d : Fin 8) (x : S2x1024.Idx) : ((slotM d).view.emb x : S8x2x1024.Idx) 1 = ((slotM 0).view.emb x : S8x2x1024.Idx) 1 := by
  apply Fin.ext
  show (((View.whole cc0_scratch0).slice (slotR d)).emb (Shape.reshapeEquiv _ x) 1).val = (((View.whole cc0_scratch0).slice (slotR 0)).emb (Shape.reshapeEquiv _ x) 1).val
  rw [ValueKit.view_emb_slice_whole_unit_val, ValueKit.view_emb_slice_whole_unit_val]
  rfl
theorem slot_emb_2 (d : Fin 8) (x : S2x1024.Idx) : ((slotM d).view.emb x : S8x2x1024.Idx) 2 = ((slotM 0).view.emb x : S8x2x1024.Idx) 2 := by
  apply Fin.ext
  show (((View.whole cc0_scratch0).slice (slotR d)).emb (Shape.reshapeEquiv _ x) 2).val = (((View.whole cc0_scratch0).slice (slotR 0)).emb (Shape.reshapeEquiv _ x) 2).val
  rw [ValueKit.view_emb_slice_whole_unit_val, ValueKit.view_emb_slice_whole_unit_val]
  rfl

/-- The rows of a device landing in slot `d` of the device they are sent to. -/
theorem landed_eq (c n : Dev nD) (d : Fin 8) (h : nbr n d = c) (fd : GBuf F) :
    ∀ i ∈ (slotM d).view.set, (slotM d).view.write (Elt F) fd ((slotM 0).view.read (Elt F) (locB m ρ c 7)) Finset.univ i = gathered m ρ n i := by
  intro i hi
  obtain ⟨x, -, rfl⟩ := Finset.mem_map.mp hi
  refine (View.write_emb_of_mem _ _ (Finset.mem_univ x)).trans ?_
  show locB m ρ c 7 ((slotM 0).view.emb x) = locB m ρ (nbr n (((slotM d).view.emb x : S8x2x1024.Idx) 0)) 7 ((slotM d).view.emb x)
  rw [slot_emb_0, h]
  have e1 := slot_emb_1 d x
  have e2 := slot_emb_2 d x
  dsimp only [locB]
  rw [e1, e2]

/-! ## Points-to facts: one slot, and the buffer as its eight slots -/

/-- Slot `d` of device `c`'s buffer at share `q`. -/
def slotPts (c : Dev nD) (d : Fin 8) (q : PosShare TreeShare) (f : GBuf F) : sProp 𝕄 :=
  (slotM d).view.loc (c : Thread nD τ) ↦[(slotM d).view.set]{q} f

omit [FloatOps F] in
instance slotPts_storable (c : Dev nD) (d q f) : BI.Storable (upEmb : UEmb _ 𝕄) (slotPts (F := F) c d q f) := by unfold slotPts; infer_instance

omit [FloatOps F] in
theorem slotPts_congr (c : Dev nD) (d : Fin 8) (q : PosShare TreeShare) {f g : GBuf F} (h : ∀ i : S8x2x1024.Idx, i 0 = d → f i = g i) :
    slotPts c d q f = slotPts c d q g := by
  unfold slotPts
  exact pointsTo_congr fun i hi => h i ((mem_slot d i).mp (by rw [← slot_set d]; exact hi))

omit [FloatOps F] in
/-- The whole buffer is its eight slots. -/
theorem buf_slots (c : Dev nD) (f : GBuf F) :
    (((c : Thread nD τ).loc cc0_scratch0) ↦{fullShare} f : sProp 𝕄) = bigSep Finset.univ fun d : Fin 8 => slotPts c d fullShare f := by
  unfold slotPts
  refine (Ring.pointsTo_blocks (ℓ := (c : Thread nD τ).loc cc0_scratch0) (fun d : Fin 8 => (slotR d).set) ?_ ?_ f).trans ?_
  · intro d d' hdd
    rw [Finset.disjoint_left]
    intro i hi hi'
    exact hdd (((mem_slot d i).mp hi).symm.trans ((mem_slot d' i).mp hi'))
  · refine Finset.eq_univ_of_forall fun i => Finset.mem_biUnion.mpr ⟨i 0, Finset.mem_univ _, (mem_slot _ i).mpr rfl⟩
  · exact bigSep_congr fun d _ => by rw [slot_set d]

/-- What slot 0's rows and the slots' arrivals put together. -/
theorem slot_zero_gathered (c : Dev nD) : slotPts c 0 fullShare (locB m ρ c 7) = (slotPts c 0 fullShare (gathered m ρ c) : sProp 𝕄) :=
  slotPts_congr c 0 fullShare fun i hi => by unfold gathered; rw [hi, nbr_zero]

/-! ## The schedule -/

/-- What the signal of `c`'s peer at offset `j.rev + 1` hands `c`: that peer's slot for the rows of `c`. -/
def barPay (c : Dev nD) (j : Fin 7) : sProp 𝕄 := iprop(∃ f, slotPts (peer c j.rev) j.succ fullShare f)
/-- What an arrival hands the device: its slot for that sender, holding the sender's rows. -/
def recvPay (c : Dev nD) (j : Fin 7) : sProp 𝕄 := slotPts c j.rev.succ fullShare (gathered m ρ c)
/-- What a departure hands back: the share of slot 0 the transfer read. -/
def sendPay (c : Dev nD) (j : Fin 7) : sProp 𝕄 := slotPts c 0 (Transfers.shareTok fullShare 7 j) (locB m ρ c 7)

/-- The offset a DMA semaphore of the exchange belongs to. -/
def offOf (q : DmaSem sig) : Fin 7 := ⟨(q.val + 4) % 7, Nat.mod_lt _ (by decide)⟩

theorem offOf_send : ∀ j : Fin 7, offOf (sendSem j) = j := by decide +kernel
theorem offOf_recv : ∀ j : Fin 7, offOf (recvSem j) = j := by decide +kernel
theorem send_lt : ∀ j : Fin 7, 3 ≤ (sendSem j).val ∧ (sendSem j).val < 10 := by decide +kernel
theorem recv_ge : ∀ j : Fin 7, 10 ≤ (recvSem j).val := by decide +kernel

/-- The duties of a cell's only round, by the cell. -/
def dutiesOf : SemLoc sig → Finset (Fin 7)
  | .reg _ => Finset.univ
  | .dma q => if 3 ≤ q.val then {0} else ∅
/-- One duty's amount, by the cell. -/
def amountOf' : SemLoc sig → ℕ
  | .reg _ => 1
  | .dma _ => N
/-- One duty's payload, by the device and the cell. -/
def payOf (c : Dev nD) (d : Fin 7) : SemLoc sig → sProp 𝕄
  | .reg _ => barPay c d
  | .dma q => if q.val < 10 then sendPay m ρ c (offOf q) else recvPay m ρ c (offOf q)

/-- One round: a barrier cell has a duty of one unit per peer, a send or receive cell one duty of a slot's credit. -/
def gRd : Rounds.Schedule (GSem nD τ sig) (Fin 7) 𝕄 where
  duties g r := if r = 0 ∧ g.1.2 = .tc then dutiesOf g.2 else ∅
  unitless _ := False
  amount g _ _ := amountOf' g.2
  payload g _ d := payOf m ρ g.1.1 d g.2
  amount_pos g _ _ _ := by
    rcases g with ⟨t, s | q⟩
    · exact Nat.one_pos
    · exact N_pos

instance gRd_payload_storable (g : GSem nD τ sig) (r : ℕ) (d : Fin 7) :
    BI.Storable (upEmb : UEmb _ 𝕄) ((gRd (F := F) m ρ).payload g r d) := by
  show BI.Storable upEmb (payOf m ρ g.1.1 d g.2)
  rcases g with ⟨t, s | q⟩
  · show BI.Storable upEmb (barPay t.1 d)
    unfold barPay; infer_instance
  · show BI.Storable upEmb (if q.val < 10 then sendPay m ρ t.1 (offOf q) else recvPay m ρ t.1 (offOf q))
    unfold sendPay recvPay
    split <;> infer_instance

section Sched
variable (c : Dev nD) (j : Fin 7)

theorem duties_bar : (gRd (F := F) m ρ).duties (barCell c) 0 = Finset.univ := by dsimp only [gRd]; exact if_pos ⟨rfl, rfl⟩
theorem duties_send : (gRd (F := F) m ρ).duties (sendCell c j) 0 = {0} := by
  dsimp only [gRd]; exact (if_pos ⟨rfl, rfl⟩).trans (if_pos (send_lt j).1)
theorem duties_recv : (gRd (F := F) m ρ).duties (recvCell c j) 0 = {0} := by
  dsimp only [gRd]; exact (if_pos ⟨rfl, rfl⟩).trans (if_pos (le_trans (by decide) (recv_ge j)))
theorem duties_later (g : GSem nD τ sig) : ∀ r, 1 ≤ r → (gRd (F := F) m ρ).duties g r = ∅ :=
  fun r hr => by dsimp only [gRd]; rw [if_neg fun h => by omega]

theorem amount_bar (d : Fin 7) : (gRd (F := F) m ρ).amount (barCell c) 0 d = 1 := rfl
theorem amount_send (d : Fin 7) : (gRd (F := F) m ρ).amount (sendCell c j) 0 d = N := rfl
theorem amount_recv (d : Fin 7) : (gRd (F := F) m ρ).amount (recvCell c j) 0 d = N := rfl

theorem expect_bar : (gRd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send : (gRd (F := F) m ρ).expect (sendCell c j) 0 = N := by
  unfold Schedule.expect Schedule.amountOf; rw [duties_send, Finset.sum_singleton, amount_send]
theorem expect_recv : (gRd (F := F) m ρ).expect (recvCell c j) 0 = N := by
  unfold Schedule.expect Schedule.amountOf; rw [duties_recv, Finset.sum_singleton, amount_recv]

theorem payload_bar (d : Fin 7) : (gRd (F := F) m ρ).payload (barCell c) 0 d = barPay c d := rfl
theorem payload_send (d : Fin 7) : (gRd (F := F) m ρ).payload (sendCell c j) 0 d = sendPay m ρ c j := by
  dsimp only [gRd]; show (if _ then _ else _) = _; rw [if_pos (send_lt j).2, offOf_send]
theorem payload_recv (d : Fin 7) : (gRd (F := F) m ρ).payload (recvCell c j) 0 d = recvPay m ρ c j := by
  dsimp only [gRd]; show (if _ then _ else _) = _; rw [if_neg (Nat.not_lt.mpr (recv_ge j)), offOf_recv]

theorem rest_bar : bigSep ((gRd (F := F) m ρ).duties (barCell c) 0 \ ∅) (fun d => (gRd (F := F) m ρ).payload (barCell c) 0 d)
    = bigSep Finset.univ fun d => barPay c d := by
  rw [Finset.sdiff_empty, duties_bar]; rfl
theorem rest_send : bigSep ((gRd (F := F) m ρ).duties (sendCell c j) 0 \ ∅) (fun d => (gRd (F := F) m ρ).payload (sendCell c j) 0 d) = sendPay m ρ c j := by
  rw [Finset.sdiff_empty, duties_send, bigSep_singleton, payload_send]
theorem rest_recv : bigSep ((gRd (F := F) m ρ).duties (recvCell c j) 0 \ ∅) (fun d => (gRd (F := F) m ρ).payload (recvCell c j) 0 d) = recvPay m ρ c j := by
  rw [Finset.sdiff_empty, duties_recv, bigSep_singleton, payload_recv]

end Sched

/-! ## Offsets still to do and already done -/

/-- The offsets from `k` on. -/
def rest (k : ℕ) : Finset (Fin 7) := Finset.univ.filter fun j => k ≤ j.val
/-- The offsets below `k`. -/
def done (k : ℕ) : Finset (Fin 7) := Finset.univ.filter fun j => j.val < k

theorem rest_zero : rest 0 = Finset.univ := by decide
theorem rest_end : rest 7 = ∅ := by decide
theorem done_zero : done 0 = ∅ := by decide
theorem done_end : done 7 = Finset.univ := by decide
theorem rest_step : ∀ j : Fin 7, rest j.val = insert j (rest (j.val + 1)) := by decide
theorem rest_not : ∀ j : Fin 7, j ∉ rest (j.val + 1) := by decide
theorem done_step : ∀ j : Fin 7, done (j.val + 1) = insert j (done j.val) := by decide
theorem done_not : ∀ j : Fin 7, j ∉ done j.val := by decide

/-! ## What each core owes at launch; the levels -/

/-- The receive credits still owed before the transfer at offset `k`. -/
def Orecv (c : Dev nD) (k : ℕ) : CellTallies nD τ sig Unit := ∑ j ∈ rest k, tallyAt (recvCell (peer c j) j) () N
/-- The barrier units still owed before the signal at offset `k`. -/
def Obar (c : Dev nD) (k : ℕ) : CellTallies nD τ sig Unit := ∑ j ∈ rest k, tallyAt (barCell (peer c j)) () 1
def O₀ (c : Dev nD) : CellTallies nD τ sig Unit := Orecv c 0 + Obar c 0

theorem Orecv_step (c : Dev nD) (j : Fin 7) : Orecv c j.val = Orecv c (j.val + 1) + tallyAt (recvCell (peer c j) j) () N := by
  unfold Orecv; rw [rest_step, Finset.sum_insert (rest_not j), add_comm]
theorem Obar_step (c : Dev nD) (j : Fin 7) : Obar c j.val = Obar c (j.val + 1) + tallyAt (barCell (peer c j)) () 1 := by
  unfold Obar; rw [rest_step, Finset.sum_insert (rest_not j), add_comm]
theorem Orecv_end (c : Dev nD) : Orecv c 7 = 0 := by unfold Orecv; rw [rest_end, Finset.sum_empty]
theorem Obar_end (c : Dev nD) : Obar c 7 = 0 := by unfold Obar; rw [rest_end, Finset.sum_empty]

def L (g : GSem nD τ sig) : Finset Unit := if g.1.2 = .tc then {()} else ∅
/-- barrier cells at 1, receive cells at 2, everything else (staging, send) at 0. -/
def lv (g : GSem nD τ sig) (_ : Unit) : ℕ := match g.2 with
  | .reg _ => 1
  | .dma q => if q.val < 10 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (j : Fin 7) : lv (recvCell c j) () = 2 := if_neg (Nat.not_lt.mpr (recv_ge j))
theorem lv_bar (c : Dev nD) : lv (barCell c) () = 1 := rfl

theorem Orecv_pos {c : Dev nD} {k : ℕ} {g : GSem nD τ sig} {u : Unit} (h : 0 < Orecv c k g u) : ∃ j : Fin 7, g = recvCell (peer c j) j := by
  unfold Orecv at h
  rw [Finset.sum_apply, Finsupp.finset_sum_apply] at h
  obtain ⟨j, -, hj⟩ := Finset.exists_ne_zero_of_sum_ne_zero h.ne'
  rw [tallyAt_apply] at hj
  exact ⟨j, by_contra fun hn => hj (if_neg fun h' => hn h'.1)⟩
theorem Obar_pos {c : Dev nD} {k : ℕ} {g : GSem nD τ sig} {u : Unit} (h : 0 < Obar c k g u) : ∃ j : Fin 7, g = barCell (peer c j) := by
  unfold Obar at h
  rw [Finset.sum_apply, Finsupp.finset_sum_apply] at h
  obtain ⟨j, -, hj⟩ := Finset.exists_ne_zero_of_sum_ne_zero h.ne'
  rw [tallyAt_apply] at hj
  exact ⟨j, by_contra fun hn => hj (if_neg fun h' => hn h'.1)⟩
theorem O₀_pos {c : Dev nD} {g : GSem nD τ sig} {u : Unit} (h : 0 < O₀ c g u) :
    (∃ j : Fin 7, g = recvCell (peer c j) j) ∨ (∃ j : Fin 7, g = barCell (peer c j)) := by
  unfold O₀ at h
  rw [Pi.add_apply, Finsupp.add_apply] at h
  rcases Nat.eq_zero_or_pos (Orecv c 0 g u) with h0 | h0
  · rw [h0, Nat.zero_add] at h; exact .inr (Obar_pos h)
  · exact .inl (Orecv_pos h0)

/-- What a device may owe while it waits for its staging copies. -/
theorem owed_pos {c : Dev nD} {O : CellTallies nD τ sig Unit} (hO : O = O₀ c ∨ O = Orecv c 0 ∨ O = 0) {g : GSem nD τ sig} {u : Unit} (h : 0 < O g u) :
    (∃ j : Fin 7, g = recvCell (peer c j) j) ∨ (∃ j : Fin 7, g = barCell (peer c j)) := by
  rcases hO with rfl | rfl | rfl
  · exact O₀_pos h
  · exact .inl (Orecv_pos h)
  · exact absurd h (Nat.lt_irrefl 0)

theorem mayWait_stage (c : Dev nD) (q : DmaSem sig) (hq : q.val < 10) (O : CellTallies nD τ sig Unit) (hO : O = O₀ c ∨ O = Orecv c 0 ∨ O = 0) :
    (levAts L lv : sProp 𝕄) ⊢ MayWait (c : Thread nD τ) (.dma q) () O :=
  MayOwe.of_cut (L := L) (lev := lv) 0 (fun p hp => by rw [Finset.mem_singleton.mp hp, L_tc]; exact Finset.mem_singleton_self _)
    (fun g u hg => by rcases owed_pos hO hg with ⟨j, rfl⟩ | ⟨j, rfl⟩ <;> exact Finset.mem_singleton_self _)
    (fun p hp => by rw [Finset.mem_singleton.mp hp]; exact le_of_eq (if_pos hq))
    (fun g u hg => by
      rcases owed_pos hO hg with ⟨j, rfl⟩ | ⟨j, rfl⟩
      · rw [lv_recv]; decide
      · rw [lv_bar]; decide)

/-- At its barrier wait a device owes receive credits only: receive cells, above its barrier cell. -/
theorem mayWait_bar (c : Dev nD) : (levAts L lv : sProp 𝕄) ⊢ MayWait (c : Thread nD τ) (.reg barS) () (Orecv c 0) :=
  MayOwe.of_cut (L := L) (lev := lv) 1 (fun p hp => by rw [Finset.mem_singleton.mp hp, L_tc]; exact Finset.mem_singleton_self _)
    (fun g u hg => by obtain ⟨j, rfl⟩ := Orecv_pos hg; exact Finset.mem_singleton_self _)
    (fun p hp => by rw [Finset.mem_singleton.mp hp]; exact le_of_eq (lv_bar c))
    (fun g u hg => by obtain ⟨j, rfl⟩ := Orecv_pos hg; rw [lv_recv]; decide)

end Cert.KernelIdeal.Gather

end
-- ==== Proof.StepsI.lean ====
/-
# One step of the exchange: a signal, a send, a wait for an arrival, a wait for a departure

Each kind of step is run seven times, once per offset. What is still to do and what is done are products over the offsets
from `k` on and below `k`; a step's theorem moves one offset from one product to the other.
-/
module

public import proofs.«01_k».proof.Proof.WireI

@[expose] public section

set_option maxRecDepth 16384

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

omit [FloatOps F] in
/-- A product over one more offset. -/
theorem bigSep_grow {s : Finset (Fin 7)} {j : Fin 7} (h : j ∉ s) (Φ : Fin 7 → sProp 𝕄) : bigSep (insert j s) Φ = iprop(Φ j ∗ bigSep s Φ) :=
  bigSep_insert h

/-! ## The program's transfers and waits by their offset -/

/-- The transfer of slot 0 to device `n`, on the semaphores of offset `j`. -/
def sendOp (n : Dev nD) (j : Fin 7) : Prog (TpuEff nD τ sig (Elt F) Λ₀ .tc) PUnit :=
  Prog.lift (.enqueueDma (slotM 0) (.remote (Dev.tc n) (slotM j.rev.succ) (.dma (sendSem j))) (.dma (recvSem j))
    ((View.wordExact_bits rfl).reshape _ _) ((View.wordExact_bits rfl).reshape _ _) ⟨⟨rfl, Or.inl rfl⟩, trivial⟩)
/-- The wait for the arrival at offset `j`. -/
def recvWait (j : Fin 7) : Prog (TpuEff nD τ sig (Elt F) Λ₀ .tc) PUnit :=
  Prog.lift (.waitDma2 (recvSem j) (slotM 0) (slotM j.rev.succ) ((View.wordExact_bits rfl).reshape _ _) ((View.wordExact_bits rfl).reshape _ _))
/-- The wait for the departure at offset `j`. -/
def sendWait (j : Fin 7) : Prog (TpuEff nD τ sig (Elt F) Λ₀ .tc) PUnit :=
  Prog.lift (.waitDma2 (sendSem j) (slotM j.rev.succ) (slotM 0) ((View.wordExact_bits rfl).reshape _ _) ((View.wordExact_bits rfl).reshape _ _))

/-! ## What every device knows of every cell -/

/-- Every cell's invariant, at the name `K` gives it, and that its round 0 is reached. -/
def records (K : Dev nD × Option (Bool × Fin 7) → ℕ) : sProp 𝕄 :=
  bigSep Finset.univ fun ck => iprop(cellInv ER (gRd m ρ) (K ck) (kcell ck) ∗ reached ER (kcell ck) 0)

instance records_persistent (K : Dev nD × Option (Bool × Fin 7) → ℕ) : BI.Persistent (records m ρ K) := by unfold records; infer_instance

variable (K : Dev nD × Option (Bool × Fin 7) → ℕ)

theorem records_at (ck : Dev nD × Option (Bool × Fin 7)) :
    records m ρ K ⊢ iprop(cellInv ER (gRd m ρ) (K ck) (kcell ck) ∗ reached ER (kcell ck) 0) := bigSep_elim (Finset.mem_univ ck)
theorem records_bar (d : Dev nD) :
    records m ρ K ⊢ iprop(cellInv ER (gRd m ρ) (K (d, none)) (barCell d) ∗ reached ER (barCell d) 0) := records_at m ρ K (d, none)
theorem records_send (d : Dev nD) (j : Fin 7) :
    records m ρ K ⊢ iprop(cellInv ER (gRd m ρ) (K (d, some (false, j))) (sendCell d j) ∗ reached ER (sendCell d j) 0) := records_at m ρ K (d, some (false, j))
theorem records_recv (d : Dev nD) (j : Fin 7) :
    records m ρ K ⊢ iprop(cellInv ER (gRd m ρ) (K (d, some (true, j))) (recvCell d j) ∗ reached ER (recvCell d j) 0) := records_at m ρ K (d, some (true, j))

/-! ## The signals -/

/-- What the signal at offset `j` uses up: the right to pay the peer's barrier, and the slot for that peer's rows. -/
def sigNeed (c : Dev nD) (j : Fin 7) : sProp 𝕄 := iprop(dutyTok ER (barCell (peer c j)) 0 j ∗ ∃ f, slotPts c j.succ fullShare f)

/-- Before the signal at offset `k`. -/
def sigState (c : Dev nD) (k : ℕ) : sProp 𝕄 :=
  iprop((∃ W, owes (c : Thread nD τ) (Orecv c 0 + Obar c k) W) ∗ bigSep (rest k) (sigNeed c))

theorem sig_step (c n : Dev nD) (j : Fin 7) (hn : n = peer c j) {α : Type} {Q : α → sProp 𝕄} {k : PUnit → Prog (TpuEff nD τ sig (Elt F) Λ₀ .tc) α} :
    iprop(records m ρ K ∗ sigState c j.val)
      ⊢ iprop((sigState c (j.val + 1) -∗ wp frame (wpE (defs₀ (F := F)) 𝒱₀ (c : Thread nD τ) none) Set.univ (k ⟨⟩) Q)
          -∗ wp frame (wpE (defs₀ (F := F)) 𝒱₀ (c : Thread nD τ) none) Set.univ (semSignalWord n barS 1#32 >>= k) Q) := by
  subst hn
  simp only [semSignalWord, Prog.bind_op, Prog.bind_ret]
  unfold sigState
  rw [rest_step, bigSep_grow (rest_not j), Obar_step, ← add_assoc]
  unfold sigNeed
  iintro ⟨#HR, ⟨%W, HO⟩, ⟨Ht, Hf⟩, Hrest⟩ Hk
  ihave #HI := (records_bar m ρ K (peer c j)) $$ HR
  icases HI with ⟨HI, Hr⟩
  iapply (Rounds.wp_signal 𝒱₀ ER (gRd m ρ) (c : Thread nD τ) none (dst := (peer c j : Thread nD τ)) (κ := K (peer c j, none))
      (d := j) (by rw [duties_bar]; exact Finset.mem_univ _) ((amount_bar m ρ (peer c j) j).trans (by decide)) () (Orecv c 0 + Obar c (j.val + 1)) rfl)
    $$ [HO Ht Hf]
  · isplitr; · iexact HI
    isplitl [HO]; · iexact HO
    isplitl [Ht]; · iexact Ht
    isplitl [Hf]
    · rw [payload_bar]; unfold barPay; rw [peer_rev]; iexact Hf
    · iexact Hr
  iintro HO
  iapply Hk
  isplitl [HO]
  · iexists W; iexact HO
  · iexact Hrest

/-! ## The sends -/

/-- What the transfer at offset `j` uses up. -/
def sendNeed (c : Dev nD) (j : Fin 7) : sProp 𝕄 :=
  iprop(slotPts c 0 (Transfers.shareTok fullShare 7 j) (locB m ρ c 7) ∗ (∃ f, slotPts (peer c j) j.rev.succ fullShare f)
    ∗ dutyTok ER (sendCell c j) 0 0 ∗ dutyTok ER (recvCell (peer c j) j) 0 0)

/-- Before the transfer at offset `k`. -/
def sendState (c : Dev nD) (k : ℕ) : sProp 𝕄 :=
  iprop((∃ W, owes (c : Thread nD τ) (Orecv c k) W) ∗ bigSep (rest k) (sendNeed m ρ c)
    ∗ bigSep (done k) fun j => cred (tallyAt (sendCell c j) () N))

/-- The transfer of slot 0 at offset `j` to device `n = peer c j`: its source's share and the peer's slot go, the send credit comes. -/
theorem wp_send_slot (c n : Dev nD) (j : Fin 7) (hn : n = peer c j)
    {hsc : (slotM j.rev.succ : Memref sig (Dev.tc n : Thread nD τ).2.kind .vmem S2x1024 .f32).view.ref.isScScratch = false}
    {hsrc : (slotM 0).view.WordExact} {hdst : (slotM j.rev.succ).view.WordExact}
    {hsem : DmaTarget.Typed .vmem (.dma (recvSem j)) (.remote (Dev.tc n : Thread nD τ) (slotM j.rev.succ) (.dma (sendSem j)) hsc)}
    {α : Type} {Q : α → sProp 𝕄} {k : PUnit → Prog (TpuEff nD τ sig (Elt F) Λ₀ .tc) α} (fd : GBuf F) (W : Waits sig Unit) :
    iprop(cellInv ER (gRd m ρ) (K (c, some (false, j))) (sendCell c j) ∗ cellInv ER (gRd m ρ) (K (peer c j, some (true, j))) (recvCell (peer c j) j)
        ∗ slotPts c 0 (Transfers.shareTok fullShare 7 j) (locB m ρ c 7) ∗ slotPts (peer c j) j.rev.succ fullShare fd
        ∗ owes (c : Thread nD τ) (Orecv c j.val) W
        ∗ dutyTok ER (sendCell c j) 0 0 ∗ reached ER (sendCell c j) 0
        ∗ dutyTok ER (recvCell (peer c j) j) 0 0 ∗ reached ER (recvCell (peer c j) j) 0)
      ⊢ iprop(((cred (tallyAt (sendCell c j) () N) ∗ owes (c : Thread nD τ) (Orecv c (j.val + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM j.rev.succ) (.dma (sendSem j)) hsc) (.dma (recvSem j)) hsrc hdst hsem) k) Q) := by
  subst hn
  unfold slotPts
  refine Rounds.wp_send_pointsTo 𝒱₀ ER (gRd m ρ) (c : Thread nD τ) none (κ₁ := K (c, some (false, j))) (κ₂ := K (peer c j, some (true, j)))
    (c' := (peer c j : Thread nD τ)) (src := slotM 0) (dst := slotM j.rev.succ) (sS := .dma (sendSem j)) (sem := .dma (recvSem j))
    (q := Transfers.shareTok fullShare 7 j) (fs := locB m ρ c 7) (fd := fd) (r₁ := 0) (r₂ := 0) (d₁ := 0) (d₂ := 0)
    (by rw [duties_send]; exact Finset.mem_singleton_self _) (by rw [duties_recv]; exact Finset.mem_singleton_self _)
    () () N (N_eq j.rev.succ) (amount_send m ρ c j 0) (amount_recv m ρ (peer c j) j 0) (Orecv c (j.val + 1)) (Orecv_step c j) (W := W) ?_ ?_
  · rw [payload_send]; exact BI.Entails.refl _
  · rw [payload_recv]; unfold recvPay slotPts
    exact Entails.of_eq (pointsTo_congr (landed_eq m ρ c (peer c j) j.rev.succ (peer_rev c j) fd))

theorem send_step (c n : Dev nD) (j : Fin 7) (hn : n = peer c j) {α : Type} {Q : α → sProp 𝕄} {k : PUnit → Prog (TpuEff nD τ sig (Elt F) Λ₀ .tc) α} :
    iprop(records m ρ K ∗ sendState m ρ c j.val)
      ⊢ iprop((sendState m ρ c (j.val + 1) -∗ wp frame (wpE (defs₀ (F := F)) 𝒱₀ (c : Thread nD τ) none) Set.univ (k ⟨⟩) Q)
          -∗ wp frame (wpE (defs₀ (F := F)) 𝒱₀ (c : Thread nD τ) none) Set.univ (sendOp n j >>= k) Q) := by
  simp only [sendOp, Prog.lift, Prog.bind_op, Prog.bind_ret]
  unfold sendState
  rw [rest_step, bigSep_grow (rest_not j), done_step, bigSep_grow (done_not j)]
  unfold sendNeed
  iintro ⟨#HR, ⟨%W, HO⟩, ⟨⟨Hs, ⟨%fd, Hd⟩, Ht, Ht'⟩, Hrest⟩, Hdone⟩ Hk
  ihave #HI := (records_send m ρ K c j) $$ HR
  icases HI with ⟨HI, Hr⟩
  ihave #HI' := (records_recv m ρ K (peer c j) j) $$ HR
  icases HI' with ⟨HI', Hr'⟩
  iapply (wp_send_slot m ρ K c n j hn fd W) $$ [HO Hs Hd Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]
  · iexists W; iexact HO
  isplitl [Hrest]; · iexact Hrest
  isplitl [Hc]; · iexact Hc
  iexact Hdone

/-! ## The waits for arrivals -/

/-- What the wait for the arrival at offset `j` uses up. -/
def recvNeed (c : Dev nD) (j : Fin 7) : sProp 𝕄 := iprop(cred (tallyAt (recvCell c j) () N) ∗ atPos ER (recvCell c j) 0 ∅ 0)
/-- What it gives: the cell closed, and the slot holding the sender's rows. -/
def recvGot (c : Dev nD) (j : Fin 7) : sProp 𝕄 := iprop(semVal (recvCell c j) 0 ∗ recvPay m ρ c j)

/-- With the arrivals at the offsets below `k` still to wait for. -/
def recvState (c : Dev nD) (k : ℕ) : sProp 𝕄 :=
  iprop((∃ W, owes (c : Thread nD τ) 0 W) ∗ bigSep (done k) (recvNeed c) ∗ bigSep (rest k) (recvGot m ρ c))

theorem recv_step (c : Dev nD) (j : Fin 7) {α : Type} {Q : α → sProp 𝕄} {k : PUnit → Prog (TpuEff nD τ sig (Elt F) Λ₀ .tc) α} :
    iprop(records m ρ K ∗ recvState m ρ c (j.val + 1))
      ⊢ iprop((recvState m ρ c j.val -∗ wp frame (wpE (defs₀ (F := F)) 𝒱₀ (c : Thread nD τ) none) Set.univ (k ⟨⟩) Q)
          -∗ wp frame (wpE (defs₀ (F := F)) 𝒱₀ (c : Thread nD τ) none) Set.univ (recvWait j >>= k) Q) := by
  simp only [recvWait, Prog.lift, Prog.bind_op, Prog.bind_ret]
  unfold recvState
  rw [rest_step, bigSep_grow (rest_not j), done_step, bigSep_grow (done_not j)]
  iintro ⟨#HR, ⟨%W, HO⟩, ⟨Hn, Hdone⟩, Hrest⟩ Hk
  unfold recvNeed
  icases Hn with ⟨Hc, Ha⟩
  ihave #HI := (records_recv m ρ K c j) $$ HR
  icases HI with ⟨HI, -⟩
  iapply (Rounds.wp_wait_rest_token 𝒱₀ ER (gRd m ρ) (c : Thread nD τ) none (κ := K (c, some (true, j)))
      (wpE_waitDma2_eq 𝒱₀ (c : Thread nD τ) none Set.univ) (Set.mem_univ _) () (O := 0) (W := W) (R := 0) (m := 0) (T := ∅)
      (by rw [Nat.zero_add, expect_recv])) $$ [Hc HO Ha]
  · isplitr; · iexact HI
    isplitl [Hc]; · iexact Hc
    isplitl [HO]; · iexact HO
    isplitr; · rw [MayWait_zero]; iempintro
    iexact Ha
  iintro ⟨HO, Ha, -, Hpay⟩
  ihave Hp := (Entails.of_eq (rest_recv m ρ c j)) $$ Hpay
  imod (Rounds.cell_close ER (gRd m ρ) (Set.mem_univ (K (c, some (true, j)))) (fun h => h) (R := 0 + 1) (duties_later m ρ (recvCell c j))) $$ [Ha] with Hz
  · isplitr; · iexact HI
    iexact Ha
  iapply Hk
  isplitl [HO]
  · iexists _; iexact HO
  isplitl [Hdone]; · iexact Hdone
  isplitl [Hz Hp]
  · unfold recvGot
    isplitl [Hz]; · iexact Hz
    iexact Hp
  iexact Hrest

/-! ## The waits for departures -/

/-- What the wait for the departure at offset `j` uses up. -/
def depNeed (c : Dev nD) (j : Fin 7) : sProp 𝕄 := iprop(cred (tallyAt (sendCell c j) () N) ∗ atPos ER (sendCell c j) 0 ∅ 0)
/-- What it gives: the cell closed, and the share of slot 0 the transfer read. -/
def depGot (c : Dev nD) (j : Fin 7) : sProp 𝕄 := iprop(semVal (sendCell c j) 0 ∗ sendPay m ρ c j)

/-- With the departures at the offsets from `k` on still to wait for. -/
def depState (c : Dev nD) (k : ℕ) : sProp 𝕄 :=
  iprop((∃ W, owes (c : Thread nD τ) 0 W) ∗ bigSep (rest k) (depNeed c) ∗ bigSep (done k) (depGot m ρ c))

theorem dep_step (c : Dev nD) (j : Fin 7) {α : Type} {Q : α → sProp 𝕄} {k : PUnit → Prog (TpuEff nD τ sig (Elt F) Λ₀ .tc) α} :
    iprop(records m ρ K ∗ depState m ρ c j.val)
      ⊢ iprop((depState m ρ c (j.val + 1) -∗ wp frame (wpE (defs₀ (F := F)) 𝒱₀ (c : Thread nD τ) none) Set.univ (k ⟨⟩) Q)
          -∗ wp frame (wpE (defs₀ (F := F)) 𝒱₀ (c : Thread nD τ) none) Set.univ (sendWait j >>= k) Q) := by
  simp only [sendWait, Prog.lift, Prog.bind_op, Prog.bind_ret]
  unfold depState
  rw [rest_step, bigSep_grow (rest_not j), done_step, bigSep_grow (done_not j)]
  iintro ⟨#HR, ⟨%W, HO⟩, ⟨Hn, Hrest⟩, Hdone⟩ Hk
  unfold depNeed
  icases Hn with ⟨Hc, Ha⟩
  ihave #HI := (records_send m ρ K c j) $$ HR
  icases HI with ⟨HI, -⟩
  iapply (Rounds.wp_wait_rest_token 𝒱₀ ER (gRd m ρ) (c : Thread nD τ) none (κ := K (c, some (false, j)))
      (wpE_waitDma2_eq 𝒱₀ (c : Thread nD τ) none Set.univ) (Set.mem_univ _) () (O := 0) (W := W) (R := 0) (m := 0) (T := ∅)
      (by rw [Nat.zero_add, expect_send])) $$ [Hc HO Ha]
  · isplitr; · iexact HI
    isplitl [Hc]; · iexact Hc
    isplitl [HO]; · iexact HO
    isplitr; · rw [MayWait_zero]; iempintro
    iexact Ha
  iintro ⟨HO, Ha, -, Hpay⟩
  ihave Hp := (Entails.of_eq (rest_send m ρ c j)) $$ Hpay
  imod (Rounds.cell_close ER (gRd m ρ) (Set.mem_univ (K (c, some (false, j)))) (fun h => h) (R := 0 + 1) (duties_later m ρ (sendCell c j))) $$ [Ha] with Hz
  · isplitr; · iexact HI
    iexact Ha
  iapply Hk
  isplitl [HO]
  · iexists _; iexact HO
  isplitl [Hrest]; · iexact Hrest
  isplitl [Hz Hp]
  · unfold depGot
    isplitl [Hz]; · iexact Hz
    iexact Hp
  iexact Hdone

end Cert.KernelIdeal.Gather

end
-- ==== Proof.RowsI.lean ====
/-
# Loads and stores of single rows: what is read and what a pair of stores leaves
-/
module

public import proofs.«01_k».proof.Proof.WireI

@[expose] public section

set_option maxRecDepth 16384

noncomputable section

namespace Cert.KernelIdeal.Gather

open Cert.KernelIdeal Cert.KernelIdeal.Gen

open Idealize.ShloMosaic
open Idealize.ShloMosaic.TcCoe

variable {F : FTy → Type} [FloatOps F]
variable (m : (ℓ : Loc nD τ sig) → Buf (Elt F) ℓ) (ρ : Dev nD → PrngReg)

/-! ## The rectangles the body reads and writes -/

/-- Row 0 of slot 0: the running maximum. -/
abbrev rV : Rect S8x2x1024 := Rect.unit (s := S8x2x1024) ![0, 0, 0] S1x1x1024.size inb_S8x2x1024_S1x1x1024_0_0_0
/-- Row 1 of slot 0: the running index. -/
abbrev rI : Rect S8x2x1024 := Rect.unit (s := S8x2x1024) ![0, 1, 0] S1x1x1024.size inb_S8x2x1024_S1x1x1024_0_1_0
/-- Row 0 of every slot. -/
abbrev rVs : Rect S8x2x1024 := Rect.unit (s := S8x2x1024) ![0, 0, 0] S8x1x1024.size inb_S8x2x1024_S8x1x1024_0_0_0
/-- Row 1 of every slot. -/
abbrev rIs : Rect S8x2x1024 := Rect.unit (s := S8x2x1024) ![0, 1, 0] S8x1x1024.size inb_S8x2x1024_S8x1x1024_0_1_0
/-- Row 0 of the result. -/
abbrev rO0 : Rect S2x1024 := Rect.unit (s := S2x1024) ![0, 0] S1x1024.size inb_S2x1024_S1x1024_0_0
/-- Row 1 of the result. -/
abbrev rO1 : Rect S2x1024 := Rect.unit (s := S2x1024) ![1, 0] S1x1024.size inb_S2x1024_S1x1024_1_0
/-- The whole block. -/
abbrev rX : Rect S1024x1024 := Rect.unit (s := S1024x1024) ![0, 0] S1024x1024.size inb_S1024x1024_S1024x1024_0_0

abbrev oM : Memref sig .tc .vmem S2x1024 .f32 := Memref.whole cc0_stg1_0

/-- The contents of a slot whose row 0 is `V` and row 1 is `I`. -/
def rows (V I : Vec F S1x1x1024 .f32) : GBuf F := fun i => if (i 1).val = 0 then V (rowIx (i 2)) else I (rowIx (i 2))

theorem locB_eq (c : Dev nD) (t : ℕ) : locB m ρ c t = rows (accV m ρ c t) (accI m ρ c t) := rfl

theorem rowIx_eta (x : S1x1x1024.Idx) : rowIx (x 2) = x := by
  funext a
  fin_cases a
  · exact Subsingleton.elim (α := Fin 1) _ _
  · exact Subsingleton.elim (α := Fin 1) _ _
  · rfl

/-! ## A row of slot 0 lies in slot 0 -/

theorem rV_zero (x : S8x2x1024.Idx) (h : x ∈ rV.set) : (x 0).val = 0 := by
  have h' : (x 0).val < 0 + 1 := ((Rect.mem_set_unit.mp h) 0).2
  omega
theorem rI_zero (x : S8x2x1024.Idx) (h : x ∈ rI.set) : (x 0).val = 0 := by
  have h' : (x 0).val < 0 + 1 := ((Rect.mem_set_unit.mp h) 0).2
  omega

theorem sub_slot (r : Rect S8x2x1024) (h : ∀ x ∈ r.set, (x 0).val = 0) : r.set ⊆ (slotM 0).view.set := fun x hx => by
  rw [slot_set]; exact (mem_slot 0 x).mpr (Fin.ext (h x hx))

theorem access_set (r : Rect S8x2x1024) : (gM.access r).setOn Finset.univ = r.set := View.set_slice_whole _ _
theorem load_set (r : Rect S8x2x1024) : gM.view.setOn r.toLoadRect.set = r.set :=
  (View.set_slice (View.whole cc0_scratch0) r).symm.trans (View.set_slice_whole _ _)

theorem load_V : gM.view.setOn rV.toLoadRect.set ⊆ (slotM 0).view.set := by rw [load_set]; exact sub_slot rV rV_zero
theorem load_I : gM.view.setOn rI.toLoadRect.set ⊆ (slotM 0).view.set := by rw [load_set]; exact sub_slot rI rI_zero
theorem store_V : (gM.access rV).setOn Finset.univ ⊆ (slotM 0).view.set := by rw [access_set]; exact sub_slot rV rV_zero
theorem store_I : (gM.access rI).setOn Finset.univ ⊆ (slotM 0).view.set := by rw [access_set]; exact sub_slot rI rI_zero

/-! ## What a row's load reads -/

theorem read_V (V I : Vec F S1x1x1024 .f32) : gM.view.readAt (Elt F) rV.toLoadRect (rows V I) = V := by
  funext x
  have e1 : (((View.whole cc0_scratch0).slice rV).emb x 1).val = 0 := by
    rw [ValueKit.view_emb_slice_whole_unit_val]; have : (x 1).val < 1 := (x 1).isLt; show 0 + (x 1).val = 0; omega
  have e2 : ((View.whole cc0_scratch0).slice rV).emb x 2 = x 2 := by
    apply Fin.ext; rw [ValueKit.view_emb_slice_whole_unit_val]; show 0 + (x 2).val = (x 2).val; omega
  show (if (((View.whole cc0_scratch0).slice rV).emb x 1).val = 0 then V (rowIx (((View.whole cc0_scratch0).slice rV).emb x 2))
    else I (rowIx (((View.whole cc0_scratch0).slice rV).emb x 2))) = V x
  rw [if_pos e1, e2, rowIx_eta]

theorem emb_I1 (x : S1x1x1024.Idx) : (((View.whole cc0_scratch0).slice rI).emb x 1).val = 1 := by
  rw [ValueKit.view_emb_slice_whole_unit_val]; have : (x 1).val < 1 := (x 1).isLt; show 1 + (x 1).val = 1; omega
theorem emb_I2 (x : S1x1x1024.Idx) : ((View.whole cc0_scratch0).slice rI).emb x 2 = x 2 := by
  apply Fin.ext; rw [ValueKit.view_emb_slice_whole_unit_val]; show 0 + (x 2).val = (x 2).val; omega

theorem emb_I (k : Fin 1024) (i : S8x2x1024.Idx) (h0 : (i 0).val = 0) (h1 : (i 1).val ≠ 0) (h2 : i 2 = k) :
    ((View.whole cc0_scratch0).slice rI).emb (rowIx k) = i := by
  funext a; apply Fin.ext
  rw [ValueKit.view_emb_slice_whole_unit_val]
  have hi : (i 1).val < 2 := (i 1).isLt
  fin_cases a
  · show 0 + 0 = (i 0).val; rw [h0]
  · show 1 + 0 = (i 1).val; omega
  · show 0 + k.val = (i 2).val; rw [h2]; exact Nat.zero_add _
theorem emb_V (k : Fin 1024) (i : S8x2x1024.Idx) (h0 : (i 0).val = 0) (h1 : (i 1).val = 0) (h2 : i 2 = k) :
    ((View.whole cc0_scratch0).slice rV).emb (rowIx k) = i := by
  funext a; apply Fin.ext
  rw [ValueKit.view_emb_slice_whole_unit_val]
  fin_cases a
  · show 0 + 0 = (i 0).val; rw [h0]
  · show 0 + 0 = (i 1).val; omega
  · show 0 + k.val = (i 2).val; rw [h2]; exact Nat.zero_add _

theorem not_rI (i : S8x2x1024.Idx) (h1 : (i 1).val = 0) : i ∉ (gM.access rI).setOn Finset.univ := by
  rw [access_set]
  intro h
  have := (Rect.mem_set_unit.mp h) 1
  simp [h1] at this
theorem not_rV (i : S8x2x1024.Idx) (h1 : (i 1).val ≠ 0) : i ∉ (gM.access rV).setOn Finset.univ := by
  rw [access_set]
  intro h
  have := (Rect.mem_set_unit.mp h) 1
  simp at this
  omega

/-- Row 1 read after row 0 was stored is what it was. -/
theorem read_I_after (f : GBuf F) (w : Vec F S1x1x1024 .f32) :
    gM.view.readAt (Elt F) rI.toLoadRect ((gM.access rV).write (Elt F) f w Finset.univ) = gM.view.readAt (Elt F) rI.toLoadRect f := by
  funext x
  exact View.write_of_not_mem _ _ _ (not_rV (((View.whole cc0_scratch0).slice rI).emb x) fun h => absurd ((emb_I1 x).symm.trans h) (by decide))

theorem read_I (V I : Vec F S1x1x1024 .f32) : gM.view.readAt (Elt F) rI.toLoadRect (rows V I) = I := by
  funext x
  show (if (((View.whole cc0_scratch0).slice rI).emb x 1).val = 0 then V (rowIx (((View.whole cc0_scratch0).slice rI).emb x 2))
    else I (rowIx (((View.whole cc0_scratch0).slice rI).emb x 2))) = I x
  rw [if_neg (by rw [emb_I1]; decide), emb_I2, rowIx_eta]

/-- What storing both rows of slot 0 leaves on slot 0. -/
theorem stored_rows (f : GBuf F) (V I : Vec F S1x1x1024 .f32) (i : S8x2x1024.Idx) (h0 : (i 0).val = 0) :
    (gM.access rI).write (Elt F) ((gM.access rV).write (Elt F) f V Finset.univ) I Finset.univ i = rows V I i := by
  unfold rows
  by_cases h1 : (i 1).val = 0
  · rw [if_pos h1]
    refine (View.write_of_not_mem _ _ _ (not_rI i h1)).trans ?_
    have e := View.write_emb_of_mem (v := gM.access rV) (Val := Elt F) f V (M := Finset.univ) (Finset.mem_univ (rowIx (i 2)))
    rw [show (gM.access rV).emb (rowIx (i 2)) = i from emb_V (i 2) i h0 h1 rfl] at e
    exact e
  · rw [if_neg h1]
    have e := View.write_emb_of_mem (v := gM.access rI) (Val := Elt F) ((gM.access rV).write (Elt F) f V Finset.univ) I (M := Finset.univ) (Finset.mem_univ (rowIx (i 2)))
    rw [show (gM.access rI).emb (rowIx (i 2)) = i from emb_I (i 2) i h0 h1 rfl] at e
    exact e

/-- The block's load reads the block. -/
theorem read_X (a : Memref sig .tc .vmem S1024x1024 .f32) (f : a.view.ty.Contents (Elt F)) :
    a.view.readAt (Elt F) rX.toLoadRect f = a.view.read (Elt F) f := by
  funext x
  have e : rX.toLoadRect.idx x = x := by
    funext d; apply Fin.ext
    refine (ValueKit.rect_emb_unit_val (s := S1024x1024) ![0, 0] S1024x1024.size inb_S1024x1024_S1024x1024_0_0 x d).trans ?_
    fin_cases d <;> exact Nat.zero_add _
  rw [View.readAt_apply, e]

/-! ## The final loads and stores -/

/-- The eight maxima at device `c`. -/
def gV (c : Dev nD) : Vec F S8x1x1024 .f32 := fun x => accV m ρ (nbr c (x 0)) 7 (rowIx (x 2))
/-- The eight indices at device `c`. -/
def gI (c : Dev nD) : Vec F S8x1x1024 .f32 := fun x => accI m ρ (nbr c (x 0)) 7 (rowIx (x 2))

theorem gathered_V (c : Dev nD) (i : S8x2x1024.Idx) (a : Fin 8) (k : Fin 1024) (h0 : i 0 = a) (h1 : (i 1).val = 0) (h2 : i 2 = k) :
    gathered m ρ c i = accV m ρ (nbr c a) 7 (rowIx k) := by subst h0 h2; exact if_pos h1
theorem gathered_I (c : Dev nD) (i : S8x2x1024.Idx) (a : Fin 8) (k : Fin 1024) (h0 : i 0 = a) (h1 : (i 1).val ≠ 0) (h2 : i 2 = k) :
    gathered m ρ c i = accI m ρ (nbr c a) 7 (rowIx k) := by subst h0 h2; exact if_neg h1

theorem read_gV (c : Dev nD) : gM.view.readAt (Elt F) rVs.toLoadRect (gathered m ρ c) = gV m ρ c := by
  funext x
  have e0 : ((View.whole cc0_scratch0).slice rVs).emb x 0 = x 0 := by
    apply Fin.ext; rw [ValueKit.view_emb_slice_whole_unit_val]; show 0 + (x 0).val = (x 0).val; omega
  have e1 : (((View.whole cc0_scratch0).slice rVs).emb x 1).val = 0 := by
    rw [ValueKit.view_emb_slice_whole_unit_val]; have : (x 1).val < 1 := (x 1).isLt; show 0 + (x 1).val = 0; omega
  have e2 : ((View.whole cc0_scratch0).slice rVs).emb x 2 = x 2 := by
    apply Fin.ext; rw [ValueKit.view_emb_slice_whole_unit_val]; show 0 + (x 2).val = (x 2).val; omega
  exact gathered_V m ρ c (((View.whole cc0_scratch0).slice rVs).emb x) (x 0) (x 2) e0 e1 e2
theorem read_gI (c : Dev nD) : gM.view.readAt (Elt F) rIs.toLoadRect (gathered m ρ c) = gI m ρ c := by
  funext x
  have e0 : ((View.whole cc0_scratch0).slice rIs).emb x 0 = x 0 := by
    apply Fin.ext; rw [ValueKit.view_emb_slice_whole_unit_val]; show 0 + (x 0).val = (x 0).val; omega
  have e1 : (((View.whole cc0_scratch0).slice rIs).emb x 1).val ≠ 0 := by
    rw [ValueKit.view_emb_slice_whole_unit_val]; show 1 + (x 1).val ≠ 0; omega
  have e2 : ((View.whole cc0_scratch0).slice rIs).emb x 2 = x 2 := by
    apply Fin.ext; rw [ValueKit.view_emb_slice_whole_unit_val]; show 0 + (x 2).val = (x 2).val; omega
  exact gathered_I m ρ c (((View.whole cc0_scratch0).slice rIs).emb x) (x 0) (x 2) e0 e1 e2

/-- The index of the result's single row at a column. -/
def colIx (k : Fin 1024) : S1x1024.Idx := ValueIdx.ix2 (0 : Fin 1) k

/-- What the kernel leaves in the result block on device `c`: the maxima and the indices. -/
def outAt (c : Dev nD) : (cc0_stg1_0 : Ref sig .tc).ty.Contents (Elt F) := fun i =>
  if (i 0).val = 0 then k0_pay12 (gV m ρ c) (colIx (i 1)) else k0_pay13 (gV m ρ c) (gI m ρ c) (colIx (i 1))

theorem out_set (r : Rect S2x1024) : (oM.access r).setOn Finset.univ = r.set := View.set_slice_whole _ _

theorem emb_O0 (i : S2x1024.Idx) (h : (i 0).val = 0) : (oM.access rO0).emb (colIx (i 1)) = i := by
  funext a; apply Fin.ext
  refine (ValueKit.view_emb_slice_whole_unit_val cc0_stg1_0 ![0, 0] S1x1024.size inb_S2x1024_S1x1024_0_0 (colIx (i 1)) a).trans ?_
  fin_cases a
  · show 0 + 0 = (i 0).val; omega
  · show 0 + (i 1).val = (i 1).val; omega
theorem emb_O1 (i : S2x1024.Idx) (h : (i 0).val ≠ 0) : (oM.access rO1).emb (colIx (i 1)) = i := by
  funext a; apply Fin.ext
  refine (ValueKit.view_emb_slice_whole_unit_val cc0_stg1_0 ![1, 0] S1x1024.size inb_S2x1024_S1x1024_1_0 (colIx (i 1)) a).trans ?_
  have hi : (i 0).val < 2 := (i 0).isLt
  fin_cases a
  · show 1 + 0 = (i 0).val; omega
  · show 0 + (i 1).val = (i 1).val; omega

theorem not_rO1 (i : S2x1024.Idx) (h : (i 0).val = 0) : i ∉ (oM.access rO1).setOn Finset.univ := by
  rw [out_set]
  intro hm
  have := (Rect.mem_set_unit.mp hm) 0
  simp [h] at this

/-- What storing both rows of the result leaves. -/
theorem stored_out (c : Dev nD) (f : (cc0_stg1_0 : Ref sig .tc).ty.Contents (Elt F)) :
    (oM.access rO1).write (Elt F) ((oM.access rO0).write (Elt F) f (k0_pay12 (gV m ρ c)) Finset.univ) (k0_pay13 (gV m ρ c) (gI m ρ c)) Finset.univ = outAt m ρ c := by
  funext i
  unfold outAt
  by_cases h : (i 0).val = 0
  · rw [if_pos h]
    refine (View.write_of_not_mem _ _ _ (not_rO1 i h)).trans ?_
    have e := View.write_emb_of_mem (v := oM.access rO0) (Val := Elt F) f (k0_pay12 (gV m ρ c)) (M := Finset.univ) (Finset.mem_univ (colIx (i 1)))
    rw [emb_O0 i h] at e
    exact e
  · rw [if_neg h]
    have e := View.write_emb_of_mem (v := oM.access rO1) (Val := Elt F) ((oM.access rO0).write (Elt F) f (k0_pay12 (gV m ρ c)) Finset.univ)
      (k0_pay13 (gV m ρ c) (gI m ρ c)) (M := Finset.univ) (Finset.mem_univ (colIx (i 1)))
    rw [emb_O1 i h] at e
    exact e

end Cert.KernelIdeal.Gather

end
-- ==== Proof.ExchI.lean ====
/-
# The exchange: every device's rows into every device's buffer

The program's transfers and waits named by their offset, and the whole exchange run from the steps: the wait on the barrier,
the seven transfers, the seven arrivals, the seven departures.
-/
module

public import proofs.«01_k».proof.Proof.StepsI
public import proofs.«01_k».proof.Proof.RowsI

@[expose] public section

set_option maxRecDepth 16384

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The devices the program addresses -/

section Devs
variable (c : Dev nD)
theorem dev1_eq (h) : (⟨k0_dev1 c, h⟩ : Dev nD) = peer c 0 := Fin.ext (k0_dev1_eq c)
theorem dev2_eq (h) : (⟨k0_dev2 c, h⟩ : Dev nD) = peer c 1 := Fin.ext (k0_dev2_eq c)
theorem dev3_eq (h) : (⟨k0_dev3 c, h⟩ : Dev nD) = peer c 2 := Fin.ext (k0_dev3_eq c)
theorem dev4_eq (h) : (⟨k0_dev4 c, h⟩ : Dev nD) = peer c 3 := Fin.ext (k0_dev4_eq c)
theorem dev5_eq (h) : (⟨k0_dev5 c, h⟩ : Dev nD) = peer c 4 := Fin.ext (k0_dev5_eq c)
theorem dev6_eq (h) : (⟨k0_dev6 c, h⟩ : Dev nD) = peer c 5 := Fin.ext (k0_dev6_eq c)
theorem dev7_eq (h) : (⟨k0_dev7 c, h⟩ : Dev nD) = peer c 6 := Fin.ext (k0_dev7_eq c)
theorem dev8_eq (h) : (⟨k0_dev8 c, h⟩ : Dev nD) = peer c 0 := Fin.ext (k0_dev8_eq c)
theorem dev9_eq (h) : (⟨k0_dev9 c, h⟩ : Dev nD) = peer c 1 := Fin.ext (k0_dev9_eq c)
theorem dev10_eq (h) : (⟨k0_dev10 c, h⟩ : Dev nD) = peer c 2 := Fin.ext (k0_dev10_eq c)
theorem dev11_eq (h) : (⟨k0_dev11 c, h⟩ : Dev nD) = peer c 3 := Fin.ext (k0_dev11_eq c)
theorem dev12_eq (h) : (⟨k0_dev12 c, h⟩ : Dev nD) = peer c 4 := Fin.ext (k0_dev12_eq c)
theorem dev13_eq (h) : (⟨k0_dev13 c, h⟩ : Dev nD) = peer c 5 := Fin.ext (k0_dev13_eq c)
theorem dev14_eq (h) : (⟨k0_dev14 c, h⟩ : Dev nD) = peer c 6 := Fin.ext (k0_dev14_eq c)
end Devs

/-! ## The printed parts of the exchange, by offset -/

section Parts
variable (i : grid0.Coords) (a1 : Memref sig .tc .vmem S1024x1024 .f32) (h1 : a1.IsWhole) (a2 : Memref sig .tc .vmem S2x1024 .f32) (h2 : a2.IsWhole)
  (hg : gM.IsWhole) (c : Dev nD) (v2 w : BitVec 32) (v3 : Sems sig S_)

theorem part2_fold (h4 : k0_cond4 i = 1#1) : k0_part2 (F := F) i a1 h1 a2 h2 gM hg cc0_scratch1 cc0_scratch2 c v2 v3 h4 = (do
    semWaitWord v3.sem 7#32
    sendOp ⟨k0_dev8 c, k0_dev8_lt i c h4⟩ 0
    sendOp ⟨k0_dev9 c, k0_dev9_lt i c h4⟩ 1
    pure (Scalar.remsi (Scalar.addi v2 3#32) 8#32)) := rfl
theorem part3_fold (h4 : k0_cond4 i = 1#1) : k0_part3 (F := F) i a1 h1 a2 h2 gM hg cc0_scratch1 cc0_scratch2 c v2 h4 w = (do
    sendOp ⟨k0_dev10 c, k0_dev10_lt i c h4⟩ 2
    sendOp ⟨k0_dev11 c, k0_dev11_lt i c h4⟩ 3
    pure ⟨⟩) := rfl
theorem part4_fold (h4 : k0_cond4 i = 1#1) : k0_part4 (F := F) i a1 h1 a2 h2 gM hg cc0_scratch1 cc0_scratch2 c v2 h4 = (do
    sendOp ⟨k0_dev12 c, k0_dev12_lt i c h4⟩ 4
    sendOp ⟨k0_dev13 c, k0_dev13_lt i c h4⟩ 5
    sendOp ⟨k0_dev14 c, k0_dev14_lt i c h4⟩ 6
    pure ⟨⟩) := rfl
theorem part5_fold : k0_part5 (F := F) i a1 h1 a2 h2 gM hg cc0_scratch1 cc0_scratch2 v2 = (do
    recvWait 6
    recvWait 5
    recvWait 4
    pure 1#32) := rfl
theorem part6_fold : k0_part6 (F := F) i a1 h1 a2 h2 gM hg cc0_scratch1 cc0_scratch2 v2 w = (do
    recvWait 3
    recvWait 2
    recvWait 1
    pure ⟨⟩) := rfl
theorem part7_fold : k0_part7 (F := F) i a1 h1 a2 h2 gM hg cc0_scratch1 cc0_scratch2 = (do
    recvWait 0
    sendWait 0
    sendWait 1
    sendWait 2
    pure ⟨⟩) := rfl
theorem part8_fold : k0_part8 (F := F) i a1 h1 a2 h2 gM hg cc0_scratch1 cc0_scratch2 = (do
    sendWait 3
    sendWait 4
    sendWait 5
    pure ⟨⟩) := rfl
end Parts

/-! ## Products over the offsets, turned round and with slot 0 -/

omit [FloatOps F] in
theorem bigSep_rev (Φ : Fin 7 → sProp 𝕄) : bigSep Finset.univ Φ = bigSep Finset.univ fun j : Fin 7 => Φ (Fin.rev j) := bigSep_univ_equiv Fin.revPerm Φ

omit [FloatOps F] in
theorem bigSep_slots (Φ : Fin 8 → sProp 𝕄) : bigSep Finset.univ Φ = iprop(Φ 0 ∗ bigSep Finset.univ fun j : Fin 7 => Φ j.succ) := by
  rw [Fin.univ_succ, Finset.cons_eq_insert, bigSep_insert (by simp [Fin.succ_ne_zero]), bigSep_map]
  rfl

omit [FloatOps F] in
/-- The peers' slots, as the signals hand them over, are the slots the transfers write. -/
theorem bar_slots (c : Dev nD) : (bigSep Finset.univ fun j => barPay (F := F) c j) = bigSep Finset.univ fun j : Fin 7 => iprop(∃ f, slotPts (peer c j) j.rev.succ fullShare f) := by
  rw [bigSep_rev]
  refine bigSep_congr fun j _ => ?_
  unfold barPay
  rw [Fin.rev_rev]

/-- The arrivals and slot 0 are the whole buffer. -/
theorem gather_whole (c : Dev nD) :
    iprop(slotPts c 0 fullShare (locB m ρ c 7) ∗ bigSep Finset.univ fun j => recvPay m ρ c j)
      = (((c : Thread nD τ).loc cc0_scratch0) ↦{fullShare} gathered m ρ c : sProp 𝕄) := by
  rw [buf_slots, bigSep_slots, slot_zero_gathered, bigSep_rev fun j => slotPts c j.succ fullShare (gathered m ρ c)]
  rfl

omit [FloatOps F] in
theorem slot_zero_toks (c : Dev nD) (f : GBuf F) :
    (slotPts c 0 fullShare f : sProp 𝕄) ⊣⊢ iprop(slotPts c 0 (Transfers.shareDrop fullShare 7) f ∗ bigSep Finset.univ fun j : Fin 7 => slotPts c 0 (Transfers.shareTok fullShare 7 j) f) := by
  unfold slotPts
  exact Transfers.pointsTo_toks fullShare 7

/-! ## The exchange -/

/-- What device `c` needs from its first point to its last for the exchange, beyond its own rows: its barrier's credit and
    positions, the tokens it pays with, the arrivals' credits. -/
def kit (c : Dev nD) : sProp 𝕄 :=
  iprop(cred (tallyAt (barCell c) () 7) ∗ atPos ER (barCell c) 0 ∅ 0
    ∗ (bigSep Finset.univ fun j => dutyTok ER (sendCell c j) 0 0) ∗ (bigSep Finset.univ fun j => dutyTok ER (recvCell (peer c j) j) 0 0)
    ∗ bigSep Finset.univ (recvNeed c) ∗ bigSep Finset.univ fun j => atPos ER (sendCell c j) 0 ∅ 0)

/-- What the exchange leaves: the buffer holding all eight devices' rows, every cell closed. -/
def finish (c : Dev nD) : sProp 𝕄 :=
  iprop((((c : Thread nD τ).loc cc0_scratch0) ↦{fullShare} gathered m ρ c)
    ∗ (bigSep Finset.univ fun j => semVal (sendCell c j) 0) ∗ (bigSep Finset.univ fun j => semVal (recvCell c j) 0) ∗ semVal (barCell c) 0)

/-- Between the transfers and the arrivals: nothing is owed any more, and each transfer left its credit. -/
theorem send_to_recv (c : Dev nD) :
    iprop(sendState m ρ c ((6 : Fin 7).val + 1) ∗ bigSep Finset.univ (recvNeed c))
      ⊢ (iprop(recvState m ρ c ((6 : Fin 7).val + 1) ∗ bigSep Finset.univ fun j => cred (tallyAt (sendCell c j) () N)) : sProp 𝕄) := by
  unfold sendState recvState
  rw [show (6 : Fin 7).val + 1 = 7 from rfl, rest_end, done_end, Orecv_end, bigSep_empty, bigSep_empty]
  iintro ⟨⟨HO, -, Hc⟩, Hr⟩
  isplitl [HO Hr]
  · isplitl [HO]; · iexact HO
    isplitl [Hr]; · iexact Hr
    iempintro
  · iexact Hc

/-- Between the arrivals and the departures: every peer's rows are here. -/
theorem recv_to_dep (c : Dev nD) :
    iprop(recvState m ρ c ((0 : Fin 7).val) ∗ (bigSep Finset.univ fun j => cred (tallyAt (sendCell c j) () N))
        ∗ bigSep Finset.univ fun j => atPos ER (sendCell c j) 0 ∅ 0)
      ⊢ (iprop(depState m ρ c ((0 : Fin 7).val) ∗ (bigSep Finset.univ fun j => semVal (recvCell c j) 0) ∗ bigSep Finset.univ fun j => recvPay m ρ c j) : sProp 𝕄) := by
  unfold recvState depState
  have eG : (bigSep Finset.univ (recvGot m ρ c) : sProp 𝕄) = iprop((bigSep Finset.univ fun j => semVal (recvCell c j) 0) ∗ bigSep Finset.univ fun j => recvPay m ρ c j) := by
    unfold recvGot; exact bigSep_sep' _ _ _
  have eN : (bigSep Finset.univ (depNeed (F := F) c) : sProp 𝕄) = iprop((bigSep Finset.univ fun j => cred (tallyAt (sendCell c j) () N)) ∗ bigSep Finset.univ fun j => atPos ER (sendCell c j) 0 ∅ 0) := by
    unfold depNeed; exact bigSep_sep' _ _ _
  rw [show (0 : Fin 7).val = 0 from rfl, rest_zero, done_zero, bigSep_empty, bigSep_empty, eG, eN]
  iintro ⟨⟨HO, -, HG⟩, Hc, Ha⟩
  isplitl [HO Hc Ha]
  · isplitl [HO]; · iexact HO
    isplitl [Hc Ha]
    · isplitl [Hc]; · iexact Hc
      iexact Ha
    iempintro
  · iexact HG

/-- After the departures: slot 0's shares are back. -/
theorem dep_out (c : Dev nD) :
    depState m ρ c ((6 : Fin 7).val + 1)
      ⊢ (iprop((∃ W, owes (c : Thread nD τ) 0 W) ∗ (bigSep Finset.univ fun j => semVal (sendCell c j) 0)
          ∗ bigSep Finset.univ fun j : Fin 7 => slotPts c 0 (Transfers.shareTok fullShare 7 j) (locB m ρ c 7)) : sProp 𝕄) := by
  unfold depState
  have eG : (bigSep Finset.univ (depGot m ρ c) : sProp 𝕄) = iprop((bigSep Finset.univ fun j => semVal (sendCell c j) 0) ∗ bigSep Finset.univ fun j => sendPay m ρ c j) := by
    unfold depGot; exact bigSep_sep' _ _ _
  rw [show (6 : Fin 7).val + 1 = 7 from rfl, rest_end, done_end, bigSep_empty, eG]
  iintro ⟨HO, -, Hz, Hp⟩
  isplitl [HO]; · iexact HO
  isplitl [Hz]; · iexact Hz
  iexact Hp

variable (K : Dev nD × Option (Bool × Fin 7) → ℕ)

theorem exchange (c : Dev nD) {α : Type} {Q : α → sProp 𝕄} {k : PUnit → Prog (TpuEff nD τ sig (Elt F) Λ₀ .tc) α} :
    iprop(records m ρ K ∗ levAts L lv ∗ kit c ∗ (∃ W, owes (c : Thread nD τ) (Orecv c 0) W) ∗ slotPts c 0 fullShare (locB m ρ c 7))
      ⊢ iprop(((∃ W, owes (c : Thread nD τ) 0 W) ∗ finish m ρ c -∗ wp frame (wpE (defs₀ (F := F)) 𝒱₀ (c : Thread nD τ) none) Set.univ (k ⟨⟩) Q)
          -∗ wp frame (wpE (defs₀ (F := F)) 𝒱₀ (c : Thread nD τ) none) Set.univ
            (semWaitWord barS 7#32 >>= fun _ => sendOp (peer c 0) 0 >>= fun _ => sendOp (peer c 1) 1 >>= fun _ => sendOp (peer c 2) 2 >>= fun _ =>
              sendOp (peer c 3) 3 >>= fun _ => sendOp (peer c 4) 4 >>= fun _ => sendOp (peer c 5) 5 >>= fun _ => sendOp (peer c 6) 6 >>= fun _ =>
              recvWait 6 >>= fun _ => recvWait 5 >>= fun _ => recvWait 4 >>= fun _ => recvWait 3 >>= fun _ => recvWait 2 >>= fun _ =>
              recvWait 1 >>= fun _ => recvWait 0 >>= fun _ =>
              sendWait 0 >>= fun _ => sendWait 1 >>= fun _ => sendWait 2 >>= fun _ => sendWait 3 >>= fun _ => sendWait 4 >>= fun _ =>
              sendWait 5 >>= fun _ => sendWait 6 >>= k) Q) := by
  unfold kit
  iintro ⟨#HR, #Hlev, ⟨HcB, HaB, HtS, HtR, Hrecv, HaS⟩, ⟨%W, HO⟩, Hslot⟩ Hk
  rw [show (semWaitWord barS 7#32 : Prog (TpuEff nD τ sig (Elt F) Λ₀ .tc) PUnit) = .op (.semWait barS (7#32 : BitVec 32).toInt) .ret from rfl]
  simp only [Prog.bind_op, Prog.bind_ret]
  ihave #HI := (records_bar m ρ K c) $$ HR
  icases HI with ⟨HI, -⟩
  iapply (Rounds.wp_wait_rest_token 𝒱₀ ER (gRd m ρ) (c : Thread nD τ) none (κ := K (c, none))
      (wpE_semWait_eq 𝒱₀ (c : Thread nD τ) none Set.univ) (Set.mem_univ _) () (O := Orecv c 0) (W := W) (R := 0) (m := 0) (T := ∅)
      (by rw [expect_bar]; decide)) $$ [HcB HO HaB]
  · isplitr; · iexact HI
    isplitl [HcB]; · iexact HcB
    isplitl [HO]; · iexact HO
    isplitr; · iapply (mayWait_bar c); iexact Hlev
    iexact HaB
  iintro ⟨HO, HaB, -, Hpay⟩
  ihave Hslots := (Entails.of_eq ((rest_bar m ρ c).trans (bar_slots c))) $$ Hpay
  imod (Rounds.cell_close ER (gRd m ρ) (Set.mem_univ (K (c, none))) (fun h => h) (R := 0 + 1) (duties_later m ρ (barCell c))) $$ [HaB] with HzB
  · isplitr; · iexact HI
    iexact HaB
  -- the seven transfers
  ihave Htoks := (slot_zero_toks c (locB m ρ c 7)).1 $$ Hslot
  icases Htoks with ⟨Hdrop, Htoks⟩
  ihave HS : sendState m ρ c (0 : Fin 7).val $$ [HO Htoks Hslots HtS HtR]
  · unfold sendState sendNeed
    rw [show ((0 : Fin 7).val) = 0 from rfl, rest_zero, done_zero, bigSep_sep', bigSep_sep', bigSep_sep', bigSep_empty]
    isplitl [HO]; · iexists _; iexact HO
    isplitl [Htoks Hslots HtS HtR]
    · isplitl [Htoks]; · iexact Htoks
      isplitl [Hslots]; · iexact Hslots
      isplitl [HtS]; · iexact HtS
      iexact HtR
    · iempintro
  iapply (send_step m ρ K c (peer c 0) 0 rfl) $$ [HS]
  · isplitr; · iexact HR
    iexact HS
  iintro HS
  iapply (send_step m ρ K c (peer c 1) 1 rfl) $$ [HS]
  · isplitr; · iexact HR
    iexact HS
  iintro HS
  iapply (send_step m ρ K c (peer c 2) 2 rfl) $$ [HS]
  · isplitr; · iexact HR
    iexact HS
  iintro HS
  iapply (send_step m ρ K c (peer c 3) 3 rfl) $$ [HS]
  · isplitr; · iexact HR
    iexact HS
  iintro HS
  iapply (send_step m ρ K c (peer c 4) 4 rfl) $$ [HS]
  · isplitr; · iexact HR
    iexact HS
  iintro HS
  iapply (send_step m ρ K c (peer c 5) 5 rfl) $$ [HS]
  · isplitr; · iexact HR
    iexact HS
  iintro HS
  iapply (send_step m ρ K c (peer c 6) 6 rfl) $$ [HS]
  · isplitr; · iexact HR
    iexact HS
  iintro HS
  -- the seven arrivals
  ihave HS := (send_to_recv m ρ c) $$ [HS Hrecv]
  · isplitl [HS]; · iexact HS
    iexact Hrecv
  icases HS with ⟨HS, Hcr⟩
  iapply (recv_step m ρ K c 6) $$ [HS]
  · isplitr; · iexact HR
    iexact HS
  iintro HS
  iapply (recv_step m ρ K c 5) $$ [HS]
  · isplitr; · iexact HR
    iexact HS
  iintro HS
  iapply (recv_step m ρ K c 4) $$ [HS]
  · isplitr; · iexact HR
    iexact HS
  iintro HS
  iapply (recv_step m ρ K c 3) $$ [HS]
  · isplitr; · iexact HR
    iexact HS
  iintro HS
  iapply (recv_step m ρ K c 2) $$ [HS]
  · isplitr; · iexact HR
    iexact HS
  iintro HS
  iapply (recv_step m ρ K c 1) $$ [HS]
  · isplitr; · iexact HR
    iexact HS
  iintro HS
  iapply (recv_step m ρ K c 0) $$ [HS]
  · isplitr; · iexact HR
    iexact HS
  iintro HS
  -- the seven departures
  ihave HS := (recv_to_dep m ρ c) $$ [HS Hcr HaS]
  · isplitl [HS]; · iexact HS
    isplitl [Hcr]; · iexact Hcr
    iexact HaS
  icases HS with ⟨HS, HzR, Harr⟩
  iapply (dep_step m ρ K c 0) $$ [HS]
  · isplitr; · iexact HR
    iexact HS
  iintro HS
  iapply (dep_step m ρ K c 1) $$ [HS]
  · isplitr; · iexact HR
    iexact HS
  iintro HS
  iapply (dep_step m ρ K c 2) $$ [HS]
  · isplitr; · iexact HR
    iexact HS
  iintro HS
  iapply (dep_step m ρ K c 3) $$ [HS]
  · isplitr; · iexact HR
    iexact HS
  iintro HS
  iapply (dep_step m ρ K c 4) $$ [HS]
  · isplitr; · iexact HR
    iexact HS
  iintro HS
  iapply (dep_step m ρ K c 5) $$ [HS]
  · isplitr; · iexact HR
    iexact HS
  iintro HS
  iapply (dep_step m ρ K c 6) $$ [HS]
  · isplitr; · iexact HR
    iexact HS
  iintro HS
  ihave HS := (dep_out m ρ c) $$ HS
  icases HS with ⟨HO, HzS, Htoks⟩
  iapply Hk
  isplitl [HO]; · iexact HO
  unfold finish
  isplitl [Hdrop Htoks Harr]
  · rw [← gather_whole]
    isplitl [Hdrop Htoks]
    · iapply (slot_zero_toks c (locB m ρ c 7)).2
      isplitl [Hdrop]; · iexact Hdrop
      iexact Htoks
    · iexact Harr
  isplitl [HzS]; · iexact HzS
  isplitl [HzR]; · iexact HzR
  iexact HzB

end Cert.KernelIdeal.Gather

end
-- ==== Proof.BodyI.lean ====
/-
# The body: what each grid point's program does
-/
module

public import proofs.«01_k».proof.Proof.ExchI

@[expose] public section

set_option maxRecDepth 16384

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Bool × Fin 7) → ℕ)

/-- Is the point the first one, as the body computes it. -/
def isFirst (i : grid0.Coords) : BitVec 1 := Scalar.cmpi .ne (Scalar.extui (Scalar.cmpi .eq (BitVec.ofNat 32 (i 0).val) 0#32) : BitVec 32) 0#32
/-- Is the point a later one, as the body computes it. -/
def isLater (i : grid0.Coords) : BitVec 1 := Scalar.cmpi .ne (Scalar.extui (Scalar.cmpi .sgt (BitVec.ofNat 32 (i 0).val) 0#32) : BitVec 32) 0#32

/-- The staged block of `x`, at contents `f`. -/
abbrev xPts (a1 : Memref sig .tc .vmem S1024x1024 .f32) (c : Dev nD) (f : a1.view.ty.Contents (Elt F)) : sProp 𝕄 :=
  a1.view.loc (c : Thread nD τ) ↦[a1.view.set]{fullShare} f

/-- The last departure's wait, as the body itself spells it. -/
theorem lastWait_fold (hs hd) (k : PUnit → Prog (TpuEff nD τ sig (Elt F) Λ₀ .tc) PUnit) :
    Prog.op (.waitDma2 ((SemArray.slice cc0_scratch1 (Rect.unit (s := S7) ![6] S1.size inb_S7_S1_6)).squeeze S_ squeezes_S1_S_).sem
      ((gM.slice (Rect.unit (s := S8x2x1024) ![1, 0, 0] S1x2x1024.size inb_S8x2x1024_S1x2x1024_1_0_0) (fun _ => rfl)).squeeze S2x1024 squeezes_S1x2x1024_S2x1024)
      ((gM.slice (Rect.unit (s := S8x2x1024) ![0, 0, 0] S1x2x1024.size inb_S8x2x1024_S1x2x1024_0_0_0) (fun _ => rfl)).squeeze S2x1024 squeezes_S1x2x1024_S2x1024) hs hd) k
      = (sendWait (F := F) 6 >>= k) := rfl

section Cases
variable (i' : grid0.Coords) (a1 : Memref sig .tc .vmem S1024x1024 .f32) (h1 : a1.IsWhole) (a2 : Memref sig .tc .vmem S2x1024 .f32) (h2 : a2.IsWhole)
  (hg : gM.IsWhole) (c : Dev nD) (fx : a1.view.ty.Contents (Elt F)) (X : Vec F S1024x1024 .f32) (hX : a1.view.read (Elt F) fx = X)
include hX

/-- The first point: the seven signals, then the block's maxima and indices stored. -/
theorem body_first (c1 : k0_cond1 i' = 1#1) (c2 : isFirst i' = 1#1) (c3 : ¬ isLater i' = 1#1) (c4 : ¬ k0_cond4 i' = 1#1) (f0 : GBuf F) (Q : PUnit → sProp 𝕄) :
    iprop(records m ρ K ∗ sigState c 0 ∗ slotPts c 0 fullShare f0 ∗ xPts a1 c fx
        ∗ ((sigState c ((6 : Fin 7).val + 1) ∗ slotPts c 0 fullShare (rows (k0_pay4 X) (k0_pay5 i' c X)) ∗ xPts a1 c fx) -∗ Q ⟨⟩))
      ⊢ wp frame (wpE (defs₀ (F := F)) 𝒱₀ (c : Thread nD τ) none) Set.univ (cc0_body (F := F) i' a1 h1 a2 h2 gM hg cc0_scratch1 cc0_scratch2) Q := by
  unfold isFirst at c2
  unfold isLater at c3
  simp only [cc0_body_eq_skeleton]; unfold cc0_body_skel
  simp only [dif_pos c1, dif_pos c2, dif_neg c3, dif_neg c4, k0_part1_eq_skeleton]
  unfold k0_part1_skel
  simp only [Prog.lift, Prog.bind_assoc, Prog.bind_op, Prog.bind_ret, Prog.pure_eq_ret, wp_deviceId]
  iintro ⟨#HR, HS, Hg, Hx, Hk⟩
  iapply (sig_step m ρ K c _ 0 (dev1_eq c _)) $$ [HS]
  · isplitr; · iexact HR
    iexact HS
  iintro HS
  iapply (sig_step m ρ K c _ 1 (dev2_eq c _)) $$ [HS]
  · isplitr; · iexact HR
    iexact HS
  iintro HS
  iapply (sig_step m ρ K c _ 2 (dev3_eq c _)) $$ [HS]
  · isplitr; · iexact HR
    iexact HS
  iintro HS
  iapply (sig_step m ρ K c _ 3 (dev4_eq c _)) $$ [HS]
  · isplitr; · iexact HR
    iexact HS
  iintro HS
  iapply (sig_step m ρ K c _ 4 (dev5_eq c _)) $$ [HS]
  · isplitr; · iexact HR
    iexact HS
  iintro HS
  iapply (sig_step m ρ K c _ 5 (dev6_eq c _)) $$ [HS]
  · isplitr; · iexact HR
    iexact HS
  iintro HS
  iapply (sig_step m ρ K c _ 6 (dev7_eq c _)) $$ [HS]
  · isplitr; · iexact HR
    iexact HS
  iintro HS
  iapply (wp_load 𝒱₀ (c : Thread nD τ) none Set.univ (m := a1) (View.setOn_subset_set _ _)) $$ Hx; iintro Hx
  rw [read_X, hX]
  unfold slotPts
  iapply (wp_load 𝒱₀ (c : Thread nD τ) none Set.univ (m := gM) load_V) $$ Hg; iintro Hg
  iapply (wp_store 𝒱₀ (c : Thread nD τ) none Set.univ (m := gM) (r := rV) (Mk := Finset.univ) store_V) $$ Hg; iintro Hg
  iapply (wp_load 𝒱₀ (c : Thread nD τ) none Set.univ (m := gM) load_I) $$ Hg; iintro Hg
  iapply (wp_store 𝒱₀ (c : Thread nD τ) none Set.univ (m := gM) (r := rI) (Mk := Finset.univ) store_I) $$ Hg; iintro Hg
  rw [wp_ret]; imodintro
  iapply Hk
  isplitl [HS]; · iexact HS
  isplitl [Hg]
  · have e := slotPts_congr (F := F) c 0 fullShare fun i hi => stored_rows f0 (k0_pay4 X) (k0_pay5 i' c X) i (by rw [hi]; rfl)
    unfold slotPts at e; rw [← e]; iexact Hg
  iexact Hx

/-- A later point that is not the last: the block's maxima and indices against the running ones. -/
theorem body_mid (c1 : ¬ k0_cond1 i' = 1#1) (c2 : ¬ isFirst i' = 1#1) (c3 : isLater i' = 1#1) (c4 : ¬ k0_cond4 i' = 1#1) (V I : Vec F S1x1x1024 .f32) (Q : PUnit → sProp 𝕄) :
    iprop(slotPts c 0 fullShare (rows V I) ∗ xPts a1 c fx
        ∗ ((slotPts c 0 fullShare (rows (k0_pay8 X V) (k0_pay9 i' c X V I)) ∗ xPts a1 c fx) -∗ Q ⟨⟩))
      ⊢ wp frame (wpE (defs₀ (F := F)) 𝒱₀ (c : Thread nD τ) none) Set.univ (cc0_body (F := F) i' a1 h1 a2 h2 gM hg cc0_scratch1 cc0_scratch2) Q := by
  unfold isFirst at c2
  unfold isLater at c3
  simp only [cc0_body_eq_skeleton]; unfold cc0_body_skel
  simp only [dif_neg c1, dif_neg c2, dif_pos c3, dif_neg c4]
  simp only [Prog.lift, Prog.bind_assoc, Prog.bind_op, Prog.bind_ret, Prog.pure_eq_ret, wp_deviceId]
  iintro ⟨Hg, Hx, Hk⟩
  iapply (wp_load 𝒱₀ (c : Thread nD τ) none Set.univ (m := a1) (View.setOn_subset_set _ _)) $$ Hx; iintro Hx
  rw [read_X, hX]
  unfold slotPts
  iapply (wp_load 𝒱₀ (c : Thread nD τ) none Set.univ (m := gM) load_V) $$ Hg; iintro Hg
  rw [read_V]
  iapply (wp_load 𝒱₀ (c : Thread nD τ) none Set.univ (m := gM) load_V) $$ Hg; iintro Hg
  iapply (wp_store 𝒱₀ (c : Thread nD τ) none Set.univ (m := gM) (r := rV) (Mk := Finset.univ) store_V) $$ Hg; iintro Hg
  iapply (wp_load 𝒱₀ (c : Thread nD τ) none Set.univ (m := gM) load_I) $$ Hg; iintro Hg
  rw [read_I_after, read_I]
  iapply (wp_load 𝒱₀ (c : Thread nD τ) none Set.univ (m := gM) load_I) $$ Hg; iintro Hg
  iapply (wp_store 𝒱₀ (c : Thread nD τ) none Set.univ (m := gM) (r := rI) (Mk := Finset.univ) store_I) $$ Hg; iintro Hg
  rw [wp_ret]; imodintro
  iapply Hk
  isplitl [Hg]
  · have e := slotPts_congr (F := F) c 0 fullShare fun i hi => stored_rows (rows V I) (k0_pay8 X V) (k0_pay9 i' c X V I) i (by rw [hi]; rfl)
    unfold slotPts at e; rw [← e]; iexact Hg
  iexact Hx

/-- The last point: the block against the running rows, the exchange, and the eight devices' rows reduced into the result. -/
theorem body_last (c1 : ¬ k0_cond1 i' = 1#1) (c2 : ¬ isFirst i' = 1#1) (c3 : isLater i' = 1#1) (c4 : k0_cond4 i' = 1#1) (V I : Vec F S1x1x1024 .f32)
    (hV : k0_pay8 X V = accV m ρ c 7) (hI : k0_pay9 i' c X V I = accI m ρ c 7) (fo : (cc0_stg1_0 : Ref sig .tc).ty.Contents (Elt F)) (h2' : oM.IsWhole) (Q : PUnit → sProp 𝕄) :
    iprop(records m ρ K ∗ levAts L lv ∗ kit c ∗ (∃ W, owes (c : Thread nD τ) (Orecv c 0) W) ∗ slotPts c 0 fullShare (rows V I) ∗ xPts a1 c fx
        ∗ (((c : Thread nD τ).loc cc0_stg1_0) ↦{fullShare} fo)
        ∗ (((∃ W, owes (c : Thread nD τ) 0 W) ∗ finish m ρ c ∗ xPts a1 c fx ∗ (((c : Thread nD τ).loc cc0_stg1_0) ↦{fullShare} outAt m ρ c)) -∗ Q ⟨⟩))
      ⊢ wp frame (wpE (defs₀ (F := F)) 𝒱₀ (c : Thread nD τ) none) Set.univ (cc0_body (F := F) i' a1 h1 oM h2' gM hg cc0_scratch1 cc0_scratch2) Q := by
  unfold isFirst at c2
  unfold isLater at c3
  simp only [cc0_body_eq_skeleton]; unfold cc0_body_skel
  simp only [dif_neg c1, dif_neg c2, dif_pos c3, dif_pos c4, part2_fold, part3_fold, part4_fold, part5_fold, part6_fold, part7_fold, part8_fold]
  simp only [Prog.bind_assoc, Prog.bind_lift, Prog.bind_ret, Prog.pure_eq_ret, wp_deviceId, Prog.bind_op, dev8_eq, dev9_eq, dev10_eq, dev11_eq, dev12_eq, dev13_eq, dev14_eq]
  iintro ⟨#HR, #Hlev, Hkit, HO, Hg, Hx, Hout, Hk⟩
  iapply (wp_load 𝒱₀ (c : Thread nD τ) none Set.univ (m := a1) (View.setOn_subset_set _ _)) $$ Hx; iintro Hx
  rw [read_X, hX]
  unfold slotPts
  iapply (wp_load 𝒱₀ (c : Thread nD τ) none Set.univ (m := gM) load_V) $$ Hg; iintro Hg
  rw [read_V]
  iapply (wp_load 𝒱₀ (c : Thread nD τ) none Set.univ (m := gM) load_V) $$ Hg; iintro Hg
  iapply (wp_store 𝒱₀ (c : Thread nD τ) none Set.univ (m := gM) (r := rV) (Mk := Finset.univ) store_V) $$ Hg; iintro Hg
  iapply (wp_load 𝒱₀ (c : Thread nD τ) none Set.univ (m := gM) load_I) $$ Hg; iintro Hg
  rw [read_I_after, read_I]
  iapply (wp_load 𝒱₀ (c : Thread nD τ) none Set.univ (m := gM) load_I) $$ Hg; iintro Hg
  iapply (wp_store 𝒱₀ (c : Thread nD τ) none Set.univ (m := gM) (r := rI) (Mk := Finset.univ) store_I) $$ Hg; iintro Hg
  have e := slotPts_congr (F := F) c 0 fullShare fun i hi => stored_rows (rows V I) (k0_pay8 X V) (k0_pay9 i' c X V I) i (by rw [hi]; rfl)
  rw [hV, hI, ← locB_eq] at e
  unfold slotPts at e
  rw [hV, hI]
  ihave Hg := (Entails.of_eq e) $$ Hg
  rw [lastWait_fold, show (SemArray.scalar (sig.barrier 0 rfl)).sem = barS from rfl]
  iapply (exchange m ρ K c) $$ [Hkit HO Hg]
  · isplitr; · iexact HR
    isplitr; · iexact Hlev
    isplitl [Hkit]; · iexact Hkit
    isplitl [HO]; · iexact HO
    unfold slotPts; iexact Hg
  iintro ⟨HO, Hfin⟩
  unfold finish
  icases Hfin with ⟨Hg, Hz⟩
  iapply (wp_load 𝒱₀ (c : Thread nD τ) none Set.univ (m := gM) (Finset.subset_univ _)) $$ Hg; iintro Hg
  rw [read_gV]
  iapply (wp_load 𝒱₀ (c : Thread nD τ) none Set.univ (m := gM) (Finset.subset_univ _)) $$ Hg; iintro Hg
  rw [read_gI]
  iapply (wp_load 𝒱₀ (c : Thread nD τ) none Set.univ (m := oM) (Finset.subset_univ _)) $$ Hout; iintro Hout
  iapply (wp_store 𝒱₀ (c : Thread nD τ) none Set.univ (m := oM) (r := rO0) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := rO1) (Mk := Finset.univ) (Finset.subset_univ _)) $$ Hout; iintro Hout
  rw [stored_out, wp_ret]; imodintro
  iapply Hk
  isplitl [HO]; · iexact HO
  isplitl [Hg Hz]
  · isplitl [Hg]; · iexact Hg
    iexact Hz
  isplitl [Hx]; · iexact Hx
  iexact Hout

end Cases

end Cert.KernelIdeal.Gather

end
-- ==== Proof.PointsI.lean ====
/-
# The pipeline: the state between grid points, and the body obligation
-/
module

public import proofs.«01_k».proof.Proof.BodyI

@[expose] public section

set_option maxRecDepth 16384

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-- What every device starts the run from: the cells' records, the levels, what the exchange needs, the tokens of its signals. -/
def start (c : Dev nD) : sProp 𝕄 :=
  iprop((∃ K, records m ρ K) ∗ levAts L lv ∗ kit c ∗ bigSep Finset.univ fun j => dutyTok ER (barCell (peer c j)) 0 j)

/-- The state before point `n`. -/
def phiAt (c : Dev nD) : ℕ → sProp 𝕄
  | 0 => iprop(start m ρ c ∗ ∃ f, ((c : Thread nD τ).loc cc0_scratch0) ↦{fullShare} f)
  | n + 1 => if n < 7 then iprop((∃ K, records m ρ K) ∗ levAts L lv ∗ kit c ∗ slotPts c 0 fullShare (locB m ρ c n)) else finish m ρ c

/-- What the device owes before point `n`. -/
def owedAt (c : Dev nD) : ℕ → CellTallies nD τ sig Unit
  | 0 => O₀ c
  | n + 1 => if n < 7 then Orecv c 0 else 0

def dats (_ : Fin 1) (c : Dev nD) : Dat τ (Elt F) Unit ℕ UU ℕ cfg0 c where
  A w := (s₀ m ρ).mem ((cfg0.win w).arr.view.loc (c : Thread nD τ))
  after w t := match w with
    | ⟨0, _⟩ => xb m ρ c t.val
    | ⟨1, _⟩ => outAt m ρ c
  Φ t := phiAt m ρ c t.val
  q _ := fullShare
  owed t := owedAt c t.val

theorem before_x (c : Dev nD) (t : Fin cfg0.N) (d) : (dats m ρ 0 c).before (0 : Fin 2) t d = xb m ρ c t.val := by
  unfold Dat.before
  rw [if_pos (fetch0_0 t)]
  unfold xb
  rw [pt_val]
  rfl

theorem stage_out (t : Fin cfg0.N) : (cfg0.win (1 : Fin 2)).stage (cfg0.slots t (1 : Fin 2)) = oM := by
  rcases fin_N0 t with rfl | rfl | rfl | rfl | rfl | rfl | rfl | rfl <;> rfl

theorem conds_first : k0_cond1 (grid0.coords t0_0) = 1#1 ∧ isFirst (grid0.coords t0_0) = 1#1 ∧ ¬ isLater (grid0.coords t0_0) = 1#1 ∧ ¬ k0_cond4 (grid0.coords t0_0) = 1#1 := by
  decide +kernel
theorem conds_last : ¬ k0_cond1 (grid0.coords t0_7) = 1#1 ∧ ¬ isFirst (grid0.coords t0_7) = 1#1 ∧ isLater (grid0.coords t0_7) = 1#1 ∧ k0_cond4 (grid0.coords t0_7) = 1#1 := by
  decide +kernel
theorem conds_mid (t : Fin grid0.N) (h0 : 0 < t.val) (h7 : t.val < 7) :
    ¬ k0_cond1 (grid0.coords t) = 1#1 ∧ ¬ isFirst (grid0.coords t) = 1#1 ∧ isLater (grid0.coords t) = 1#1 ∧ ¬ k0_cond4 (grid0.coords t) = 1#1 := by
  rcases fin_N0 t with rfl | rfl | rfl | rfl | rfl | rfl | rfl | rfl
  · exact absurd h0 (by decide)
  all_goals first | decide +kernel | exact absurd h7 (by decide)

theorem idle_out (t : Fin cfg0.N) (h : ¬ k0_cond4 (grid0.coords t) = 1#1) : idle0 (1 : Fin 2) (grid0.coords t) = true := by
  show (!(k0_cond4 (grid0.coords t) == 1#1)) = true
  simp [h]
theorem busy_out (t : Fin cfg0.N) (h : k0_cond4 (grid0.coords t) = 1#1) : idle0 (1 : Fin 2) (grid0.coords t) = false := by
  show (!(k0_cond4 (grid0.coords t) == 1#1)) = false
  simp [h]
theorem flush_out (t : Fin cfg0.N) (h : t.val < 7) : (win0 (1 : Fin 2)).flush t = false := by
  have e := flush0_1 t
  cases hf : (win0 (1 : Fin 2)).flush t
  · rfl
  · exact absurd (e.mp hf) (by omega)

theorem phi_mid (c : Dev nD) (n : ℕ) (h : n < 7) :
    phiAt m ρ c (n + 1) = iprop((∃ K, records m ρ K) ∗ levAts L lv ∗ kit c ∗ slotPts c 0 fullShare (locB m ρ c n)) := if_pos h
theorem phi_end (c : Dev nD) : phiAt m ρ c (7 + 1) = finish m ρ c := by
  simp only [phiAt, if_neg (Nat.lt_irrefl 7)]
theorem owed_mid (c : Dev nD) (n : ℕ) (h : n < 7) : owedAt c (n + 1) = Orecv c 0 := if_pos h
theorem owed_end (c : Dev nD) : owedAt c (7 + 1) = 0 := by
  show (if 7 < 7 then Orecv c 0 else 0) = 0
  exact if_neg (Nat.lt_irrefl 7)

/-- The first signal's state, from what the device starts with. -/
theorem sig_start (c : Dev nD) (f : GBuf F) :
    iprop((∃ W, owes (c : Thread nD τ) (O₀ c) W) ∗ (bigSep Finset.univ fun j => dutyTok ER (barCell (peer c j)) 0 j)
        ∗ (((c : Thread nD τ).loc cc0_scratch0) ↦{fullShare} f))
      ⊢ (iprop(sigState c 0 ∗ slotPts c 0 fullShare f) : sProp 𝕄) := by
  unfold sigState sigNeed
  rw [buf_slots, bigSep_slots, rest_zero, bigSep_sep']
  iintro ⟨HO, Ht, Hg, Hs⟩
  isplitl [HO Ht Hs]
  · isplitl [HO]; · iexact HO
    isplitl [Ht]; · iexact Ht
    iapply (show (bigSep Finset.univ fun j : Fin 7 => slotPts c j.succ fullShare f)
        ⊢ (bigSep Finset.univ fun j : Fin 7 => iprop(∃ g, slotPts c j.succ fullShare g) : sProp 𝕄) from
      bigSep_mono fun j _ => show (slotPts c j.succ fullShare f : sProp 𝕄) ⊢ iprop(∃ g, slotPts c j.succ fullShare g) from by iintro H; iexists f; iexact H)
    iexact Hs
  · iexact Hg

/-- After the last signal only the arrivals are owed. -/
theorem sig_end (c : Dev nD) : sigState (F := F) c ((6 : Fin 7).val + 1) ⊢ iprop(∃ W, owes (c : Thread nD τ) (Orecv c 0) W) := by
  unfold sigState
  rw [show (6 : Fin 7).val + 1 = 7 from rfl, Obar_end, add_zero]
  iintro ⟨HO, -⟩
  iexact HO

theorem owns_out (c : Dev nD) (X : (cc0_stg1_0 : Ref sig .tc).ty.Contents (Elt F)) :
    (owns (Ix := Unit) (Name := ℕ) (U := UU) (Lvl := ℕ) (c : Thread nD τ) oM fullShare X : sProp 𝕄)
      = iprop(∃ f : Buf (Elt F) (((c : Dev nD) : Thread nD τ).loc cc0_stg1_0), ⌜f = X⌝ ∗ (((c : Thread nD τ).loc cc0_stg1_0) ↦{fullShare} f)) := by
  unfold owns; simp only [Memref.view_whole, View.read_whole, View.set_whole]

/-- `body_last`, the result's staging buffer named as the pipeline names it. -/
theorem body_last' (K : Dev nD × Option (Bool × Fin 7) → ℕ) (i' : grid0.Coords) (a1 : Memref sig .tc .vmem S1024x1024 .f32) (h1 : a1.IsWhole)
    (a2 : Memref sig .tc .vmem S2x1024 .f32) (h2 : a2.IsWhole) (hg : gM.IsWhole) (c : Dev nD) (fx : a1.view.ty.Contents (Elt F)) (X : Vec F S1024x1024 .f32)
    (hX : a1.view.read (Elt F) fx = X) (c1 : ¬ k0_cond1 i' = 1#1) (c2 : ¬ isFirst i' = 1#1) (c3 : isLater i' = 1#1) (c4 : k0_cond4 i' = 1#1)
    (V I : Vec F S1x1x1024 .f32) (hV : k0_pay8 X V = accV m ρ c 7) (hI : k0_pay9 i' c X V I = accI m ρ c 7) (ha : a2 = oM)
    (fo : (cc0_stg1_0 : Ref sig .tc).ty.Contents (Elt F)) (Q : PUnit → sProp 𝕄) :
    iprop(records m ρ K ∗ levAts L lv ∗ kit c ∗ (∃ W, owes (c : Thread nD τ) (Orecv c 0) W) ∗ slotPts c 0 fullShare (rows V I) ∗ xPts a1 c fx
        ∗ (((c : Thread nD τ).loc cc0_stg1_0) ↦{fullShare} fo)
        ∗ (((∃ W, owes (c : Thread nD τ) 0 W) ∗ finish m ρ c ∗ xPts a1 c fx ∗ (((c : Thread nD τ).loc cc0_stg1_0) ↦{fullShare} outAt m ρ c)) -∗ Q ⟨⟩))
      ⊢ wp frame (wpE (defs₀ (F := F)) 𝒱₀ (c : Thread nD τ) none) Set.univ (cc0_body (F := F) i' a1 h1 a2 h2 gM hg cc0_scratch1 cc0_scratch2) Q := by
  subst ha
  exact body_last m ρ K i' a1 h1 hg c fx X hX c1 c2 c3 c4 V I hV hI fo h2 Q

/-- The library's body obligation on device `c`. -/
theorem body_obligation (c : Dev nD) : BodyObligation (dats (F := F) m ρ 0 c) (defs₀ (F := F)) 𝒱₀ () Set.univ := fun t => by
  rw [bigSep_W0, bigSep_W0]
  dsimp only
  have hstg : stage0_1 (cfg0.slots t (1 : Fin 2)) = oM := stage_out t
  have hΦ : (dats m ρ 0 c).Φ t.castSucc = phiAt m ρ c t.val := rfl
  have hΦ' : (dats m ρ 0 c).Φ t.succ = phiAt m ρ c (t.val + 1) := rfl
  have hO : (dats m ρ 0 c).owed t.castSucc = owedAt c t.val := rfl
  have hO' : (dats m ρ 0 c).owed t.succ = owedAt c (t.val + 1) := rfl
  have hA : (dats m ρ 0 c).after (0 : Fin 2) t = xb m ρ c t.val := rfl
  unfold Dat.owesAt Pipeline.owesWithin
  rw [hΦ, hΦ', hO, hO']
  simp only [before_x, hA]
  show _ ⊢ wp frame (wpE (defs₀ (F := F)) 𝒱₀ (c : Thread nD τ) none) Set.univ (bodyAt0 (F := F) t) _
  rcases Nat.lt_or_ge t.val 7 with h7 | h7
  · rw [flush_out t h7]
    rcases Nat.eq_zero_or_pos t.val with h0 | h0
    · obtain rfl : t = t0_0 := Fin.ext h0
      obtain ⟨c1, c2, c3, c4⟩ := conds_first
      rw [idle_out t0_0 c4]
      unfold owns
      rw [show (t0_0 : Fin grid0.N).val = 0 from rfl, phi_mid m ρ c 0 (by decide), owed_mid c 0 (by decide)]
      unfold phiAt start owedAt
      iintro ⟨⟨⟨⟨%K, #HR⟩, #Hlev, Hkit, Ht⟩, ⟨%f0, Hg⟩⟩, ⟨%W, -, HO⟩, ⟨%d0, %fx, %hx, Hx⟩, Hout⟩
      ihave HS := (sig_start (F := F) c f0) $$ [HO Ht Hg]
      · isplitl [HO]; · iexists W; iexact HO
        isplitl [Ht]; · iexact Ht
        iexact Hg
      icases HS with ⟨HS, Hg⟩
      iapply (body_first m ρ K (grid0.coords t0_0) (win0_0.stage (cfg0.slots t0_0 (0 : Fin 2))) _ _ _ _ c fx _ hx c1 c2 c3 c4 f0)
      isplitr; · iexact HR
      isplitl [HS]; · iexact HS
      isplitl [Hg]; · iexact Hg
      isplitl [Hx]; · iexact Hx
      iintro ⟨HS, Hg, Hx⟩
      ihave HO := (sig_end (F := F) c) $$ HS
      icases HO with ⟨%W', HO⟩
      isplitl [Hkit Hg]
      · isplitr; · iexists K; iexact HR
        isplitr; · iexact Hlev
        isplitl [Hkit]; · iexact Hkit
        iexact Hg
      isplitl [HO]
      · iexists W'
        isplitr; · ipureintro; exact fun _ _ => Or.inl trivial
        iexact HO
      isplitl [Hx]
      · iexists fx
        isplitr; · ipureintro; exact hx
        iexact Hx
      iexact Hout
    · obtain ⟨c1, c2, c3, c4⟩ := conds_mid t h0 h7
      obtain ⟨n, hn⟩ : ∃ n, t.val = n + 1 := ⟨t.val - 1, by omega⟩
      have hp : pt (n + 1) = t := by rw [← hn]; exact pt_val t
      rw [idle_out t c4]
      unfold owns
      rw [hn, phi_mid m ρ c n (by omega), phi_mid m ρ c (n + 1) (by omega), owed_mid c n (by omega), owed_mid c (n + 1) (by omega)]
      iintro ⟨⟨HR, #Hlev, Hkit, Hg⟩, ⟨%W, -, HO⟩, ⟨%d0, %fx, %hx, Hx⟩, Hout⟩
      iapply (body_mid (grid0.coords t) (win0_0.stage (cfg0.slots t (0 : Fin 2))) _ _ _ _ c fx _ hx c1 c2 c3 c4 (accV m ρ c n) (accI m ρ c n))
      isplitl [Hg]; · iexact Hg
      isplitl [Hx]; · iexact Hx
      iintro ⟨Hg, Hx⟩
      isplitl [HR Hkit Hg]
      · isplitl [HR]; · iexact HR
        isplitr; · iexact Hlev
        isplitl [Hkit]; · iexact Hkit
        rw [locB_eq, accV, accI, hp]
        iexact Hg
      isplitl [HO]
      · iexists W
        isplitr; · ipureintro; exact fun _ _ => Or.inl trivial
        iexact HO
      isplitl [Hx]
      · iexists fx
        isplitr; · ipureintro; exact hx
        iexact Hx
      iexact Hout
  · obtain rfl : t = t0_7 := Fin.ext (by have := t.isLt; have e : cfg0.N = 8 := N_0; show t.val = 7; omega)
    obtain ⟨c1, c2, c3, c4⟩ := conds_last
    have hp : pt (6 + 1) = t0_7 := pt_val t0_7
    rw [busy_out t0_7 c4, hstg]
    rw [show (dats m ρ 0 c).after (1 : Fin 2) t0_7 = outAt m ρ c from rfl]
    simp only [owns_out]
    unfold owns
    rw [show (t0_7 : Fin grid0.N).val = 6 + 1 from rfl, phi_mid m ρ c 6 (by decide), phi_end, owed_mid c 6 (by decide), owed_end]
    iintro ⟨⟨⟨%K, #HR⟩, #Hlev, Hkit, Hg⟩, ⟨%W, -, HO⟩, ⟨%d0, %fx, %hx, Hx⟩, ⟨%d1, %fo, -, Hout⟩⟩
    iapply (body_last' m ρ K (grid0.coords t0_7) (win0_0.stage (cfg0.slots t0_7 (0 : Fin 2))) _ _ _ _ c fx _ hx c1 c2 c3 c4 (accV m ρ c 6) (accI m ρ c 6)
      rfl (by rw [← hp]; rfl) hstg fo)
    isplitr; · iexact HR
    isplitr; · iexact Hlev
    isplitl [Hkit]; · iexact Hkit
    isplitl [HO]; · iexists W; iexact HO
    isplitl [Hg]; · rw [locB_eq]; iexact Hg
    isplitl [Hx]; · iexact Hx
    isplitl [Hout]; · iexact Hout
    iintro ⟨⟨%W', HO⟩, Hfin, Hx, Hout⟩
    isplitl [Hfin]; · iexact Hfin
    isplitl [HO]
    · iexists W'
      isplitr; · ipureintro; exact fun _ _ => Or.inl trivial
      iexact HO
    isplitl [Hx]
    · iexists fx
      isplitr; · ipureintro; exact hx
      iexact Hx
    iexists _
    isplitr; · (ipureintro; rfl)
    iexact Hout

end Cert.KernelIdeal.Gather

end
-- ==== Proof.RunI.lean ====
/-
# The launch and the run
-/
module

public import proofs.«01_k».proof.Proof.PointsI
public import Idealize.ShloMosaic.Lib.Pipeline.CollectiveSegs
public import Idealize.ShloMosaic.Lib.Pipeline.ValueKit

@[expose] public section

set_option maxRecDepth 16384

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m ρ 0 c).share w = fullShare := by unfold Dat.share; split <;> rfl

/-! ## Products over a device's cells -/

omit [FloatOps F] in
theorem bigSep_bool7 (Φ : Bool × Fin 7 → sProp 𝕄) :
    bigSep Finset.univ Φ = iprop((bigSep Finset.univ fun j => Φ (false, j)) ∗ bigSep Finset.univ fun j => Φ (true, j)) := by
  rw [bigSep_univ_prod, bigSep_univ_eq_bigSepL [false, true] (by decide) (by decide)]; rfl

omit [FloatOps F] in
theorem bigSep_cells (Φ : Option (Bool × Fin 7) → sProp 𝕄) :
    bigSep Finset.univ Φ = iprop(Φ none ∗ (bigSep Finset.univ fun j => Φ (some (false, j))) ∗ bigSep Finset.univ fun j => Φ (some (true, j))) := by
  rw [univ_option, Finset.insertNone, OrderEmbedding.coe_ofMapLEIff, Finset.cons_eq_insert, bigSep_insert (by simp), bigSep_map, bigSep_bool7]
  rfl

omit [FloatOps F] in
theorem bigSep_kinds (Φ : Option Bool × Fin 7 → sProp 𝕄) :
    bigSep Finset.univ Φ = iprop((bigSep Finset.univ fun j => Φ (none, j)) ∗ (bigSep Finset.univ fun j => Φ (some false, j)) ∗ bigSep Finset.univ fun j => Φ (some true, j)) := by
  rw [bigSep_univ_prod, bigSep_univ_eq_bigSepL [none, some false, some true] (by decide) (by decide)]; rfl

/-- A device and an offset, sent to the device that offset away. -/
def swing : Dev nD × Fin 7 ≃ Dev nD × Fin 7 :=
  ⟨fun x => (peer x.1 x.2, x.2), fun x => (peer x.1 x.2.rev, x.2), fun x => Prod.ext (peer_rev x.1 x.2) rfl, fun x => Prod.ext (rev_peer x.1 x.2) rfl⟩

omit [FloatOps F] in
/-- What every device has per offset, dealt to the device that offset away. -/
theorem around (Ψ : Dev nD → Fin 7 → sProp 𝕄) :
    (bigSep Finset.univ fun c => bigSep Finset.univ fun j => Ψ c j) = bigSep Finset.univ fun c => bigSep Finset.univ fun j => Ψ (peer c j) j := by
  rw [← bigSep_univ_prod (fun x : Dev nD × Fin 7 => Ψ x.1 x.2), bigSep_univ_equiv swing, bigSep_univ_prod]
  rfl

/-! ## The cells and the duty tokens -/

theorem csem_injective : Function.Injective csem := by
  rintro (_ | ⟨b, j⟩) (_ | ⟨b', j'⟩) h
  · rfl
  · cases b' <;> cases h
  · cases b <;> cases h
  · cases b <;> cases b'
    · rw [sendSem_inj j j' (SemLoc.dma.inj h)]
    · exact absurd h (send_ne_recv j j')
    · exact absurd h.symm (send_ne_recv j' j)
    · rw [recvSem_inj j j' (SemLoc.dma.inj h)]

theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]
def gCells : Finset (GSem nD τ sig) := Finset.univ.map ⟨kcell, kcell_injective⟩

/-- The duties of a device's own cells: its barrier's seven, each send cell's and each receive cell's one. -/
abbrev tokOf (x : Dev nD × Option Bool × Fin 7) : GSem nD τ sig × ℕ × Fin 7 := match x.2.1 with
  | none => (barCell x.1, 0, x.2.2)
  | some b => (kcell (x.1, some (b, x.2.2)), 0, 0)
theorem tokOf_injective : Function.Injective tokOf := by
  rintro ⟨c, k, j⟩ ⟨c', k', j'⟩ h
  have hc : (tokOf (c, k, j)).1.1.1 = (tokOf (c', k', j')).1.1.1 := by rw [h]
  have hg : (tokOf (c, k, j)).1 = (tokOf (c', k', j')).1 := by rw [h]
  have hd : (tokOf (c, k, j)).2.2 = (tokOf (c', k', j')).2.2 := by rw [h]
  rcases k with _ | b <;> rcases k' with _ | b'
  · have e1 : c = c' := hc
    have e2 : j = j' := hd
    rw [e1, e2]
  · exact absurd (congrArg Prod.snd (kcell_injective (a₁ := (c, none)) hg)) (by simp)
  · exact absurd (congrArg Prod.snd (kcell_injective (a₂ := (c', none)) hg)) (by simp)
  · have e := kcell_injective hg
    simp only [Prod.mk.injEq, Option.some.injEq] at e
    rw [e.1, e.2.1, e.2.2]
def gToks : Finset (GSem nD τ sig × ℕ × Fin 7) := Finset.univ.map ⟨tokOf, tokOf_injective⟩

def u₀ : UU := (initOf (Pipeline.cells cfgs cellOf_inj) (Pipeline.launchToks cfgs cellOf_inj), initOf gCells gToks)

/-- The duty tokens of device `c`'s own cells. -/
def toks (c : Dev nD) : sProp 𝕄 :=
  iprop((bigSep Finset.univ fun j => dutyTok ER (barCell c) 0 j) ∗ (bigSep Finset.univ fun j => dutyTok ER (sendCell c j) 0 0)
    ∗ bigSep Finset.univ fun j => dutyTok ER (recvCell c j) 0 0)

/-- What the launch deals device `c`. -/
def G (c : Dev nD) : sProp 𝕄 :=
  iprop((bigSep Finset.univ fun k => roundState ER (gRd m ρ) (kcell (c, k)) 0)
    ∗ (bigSep Finset.univ fun k => iprop(atPos ER (kcell (c, k)) 0 ∅ 0 ∗ reached ER (kcell (c, k)) 0)) ∗ toks c)

/-- What device `c` holds once the cells' invariants are up: its positions and the tokens of the duties it pays itself. -/
def linear (c : Dev nD) : sProp 𝕄 :=
  iprop((bigSep Finset.univ fun k => atPos ER (kcell (c, k)) 0 ∅ 0)
    ∗ (bigSep Finset.univ fun j => dutyTok ER (barCell (peer c j)) 0 j) ∗ (bigSep Finset.univ fun j => dutyTok ER (sendCell c j) 0 0)
    ∗ bigSep Finset.univ fun j => dutyTok ER (recvCell (peer c j) j) 0 0)
def G' (c : Dev nD) : sProp 𝕄 := iprop((∃ K, records m ρ K) ∗ linear c)

theorem fund_cells : BI.own (ER (initOf gCells gToks)) ⊢ (|==> bigSep Finset.univ (G m ρ) : sProp 𝕄) := by
  have hX (Φ : GSem nD τ sig → sProp 𝕄) : bigSep gCells Φ = bigSep Finset.univ fun c : Dev nD => bigSep Finset.univ fun k => Φ (kcell (c, k)) := by
    unfold gCells; rw [bigSep_map, bigSep_univ_prod]; rfl
  have hT : bigSep gToks (fun x => (dutyTok ER x.1 x.2.1 x.2.2 : sProp 𝕄)) = bigSep Finset.univ fun c : Dev nD => toks c := by
    unfold gToks; rw [bigSep_map, bigSep_univ_prod]
    exact bigSep_congr fun c _ => by unfold toks; rw [bigSep_kinds]; rfl
  iintro HX
  imod (Rounds.fund ER (gRd m ρ) gCells gToks) $$ HX with ⟨Hst, Hr, Hat, Htok⟩
  imodintro
  ihave Hst' := (Entails.of_eq (hX fun g => roundState ER (gRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores become the cells -/

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun j => semVal (sendCell c j) 0) ∗ bigSep Finset.univ fun j => semVal (recvCell c j) 0) := by
  unfold Pipeline.ownSems0; rw [bigSep_bool7]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [ownSems0_eq, unscopedSems0_eq, bigSep_cells]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (gRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState ER (gRd m ρ) (kcell (c, k)) 0)
      ⊢ (|={Set.univ}=> bigSep Finset.univ fun k => iprop(∃ κ : ℕ, cellInv ER (gRd m ρ) κ (kcell (c, k))) : sProp 𝕄) from by
        rw [← bigSep_sep']
        exact (bigSep_mono fun k _ => (Rounds.body_intro ER (gRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem toks_around : (bigSep Finset.univ fun c : Dev nD => (toks c : sProp 𝕄))
    ⊢ iprop((bigSep Finset.univ fun c : Dev nD => bigSep Finset.univ fun j => dutyTok ER (barCell (peer c j)) 0 j)
      ∗ (bigSep Finset.univ fun c : Dev nD => bigSep Finset.univ fun j => dutyTok ER (sendCell c j) 0 0)
      ∗ bigSep Finset.univ fun c : Dev nD => bigSep Finset.univ fun j => dutyTok ER (recvCell (peer c j) j) 0 0) := by
  unfold toks
  rw [bigSep_sep', bigSep_sep', around (F := F) fun c j => dutyTok ER (barCell c) 0 j, around (F := F) fun c j => dutyTok ER (recvCell c j) 0 0]

theorem regroup :
    (bigSep Finset.univ fun c : Dev nD => iprop((bigSep Finset.univ fun k => iprop(∃ κ : ℕ, cellInv ER (gRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Option (Bool × Fin 7) => iprop(∃ κ : ℕ, cellInv ER (gRd m ρ) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Dev nD × Option (Bool × Fin 7) => (reached ER (kcell ck) 0 : sProp 𝕄))]
  iintro ⟨HI, ⟨Hat, #HR⟩, Htok⟩
  ihave HK := (BI.bigSep_exists_pi Finset.univ (fun (ck : Dev nD × Option (Bool × Fin 7)) (κ : ℕ) => (cellInv ER (gRd m ρ) κ (kcell ck) : sProp 𝕄))) $$ HI
  icases HK with ⟨%K, #HI⟩
  ihave Htk := (toks_around (F := F)) $$ Htok
  icases Htk with ⟨Ht1, Ht2, Ht3⟩
  ihave #Hrec : records m ρ K $$ []
  · unfold records; rw [bigSep_sep']
    isplitr; · iexact HI
    iexact HR
  unfold G' linear
  rw [bigSep_sep', bigSep_sep', bigSep_sep', bigSep_sep']
  isplitr
  · iapply (show records m ρ K ⊢ (bigSep Finset.univ fun _ : Dev nD => iprop(∃ K, records m ρ K) : sProp 𝕄) from
      (BI.bigSep_of_persistent (Finset.univ : Finset (Dev nD)) (records m ρ K)).trans
        (bigSep_mono fun _ _ => show records m ρ K ⊢ (iprop(∃ K, records m ρ K) : sProp 𝕄) from by iintro H; iexists K; iexact H))
    iexact Hrec
  isplitl [Hat]; · iexact Hat
  isplitl [Ht1]; · iexact Ht1
  isplitl [Ht2]; · iexact Ht2
  iexact Ht3

/-- All devices' semaphores and shares of the launch become the cells' records and every device's holdings. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {j k : Fin 7} : Iff (recvCell a j = recvCell b k) (a = b ∧ j = k) :=
  ⟨fun h => ⟨Fin.ext (congrArg (fun g : GSem nD τ sig => g.1.1.val) h), recvSem_inj j k (SemLoc.dma.inj (congrArg Prod.snd h))⟩, fun h => by rw [h.1, h.2]⟩

/-- Each device owes another's barrier cell one unit for the offset between them. -/
theorem owed_bar (d c : Dev nD) : O₀ d (barCell c) () = ∑ j : Fin 7, if d = peer c j.rev then 1 else 0 := by
  unfold O₀ Orecv Obar
  rw [rest_zero, Pi.add_apply, Finsupp.add_apply, Finset.sum_apply, Finset.sum_apply, Finsupp.finset_sum_apply, Finsupp.finset_sum_apply,
    Finset.sum_eq_zero fun j _ => by rw [tallyAt_ne_cell (fun h => recv_ne_bar j (congrArg Prod.snd h).symm)]; rfl, Nat.zero_add]
  refine Finset.sum_congr rfl fun j _ => ?_
  rw [tallyAt_apply]
  by_cases h : d = peer c j.rev
  · rw [if_pos h, if_pos ⟨(bar_eq_iff.mpr ((peer_eq_iff c d j).mpr h)).symm, rfl⟩]
  · rw [if_neg h, if_neg (fun h' => h ((peer_eq_iff c d j).mp (bar_eq_iff.mp h'.1).symm))]

/-- Each device owes one of another's receive cells a slot's credit. -/
theorem owed_recv (d c : Dev nD) (j : Fin 7) : O₀ d (recvCell c j) () = if d = peer c j.rev then N else 0 := by
  unfold O₀ Orecv Obar
  rw [rest_zero, Pi.add_apply, Finsupp.add_apply, Finset.sum_apply, Finset.sum_apply, Finsupp.finset_sum_apply, Finsupp.finset_sum_apply,
    Finset.sum_eq_zero (f := fun k => (tallyAt (barCell (peer d k)) () 1 : CellTallies nD τ sig Unit) (recvCell c j) ()) fun k _ => by
      rw [tallyAt_ne_cell (fun h => recv_ne_bar j (congrArg Prod.snd h))]; rfl, Nat.add_zero,
    Finset.sum_eq_single j (fun k _ hk => by rw [tallyAt_apply, if_neg (fun h => hk (recv_eq_iff.mp h.1).2.symm)]) (fun h => absurd (Finset.mem_univ _) h),
    tallyAt_apply]
  by_cases h : d = peer c j.rev
  · rw [if_pos h, if_pos ⟨(recv_eq_iff.mpr ⟨(peer_eq_iff c d j).mpr h, rfl⟩).symm, rfl⟩]
  · rw [if_neg h, if_neg (fun h' => h ((peer_eq_iff c d j).mp (recv_eq_iff.mp h'.1).1.symm))]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => Finset.sum_ite_eq' Finset.univ (peer c (Fin.rev j)) fun _ => 1]
  simp

theorem launch_recv (c : Dev nD) (j : Fin 7) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (peer c j.rev) fun _ => N, if_pos (Finset.mem_univ _)]

/-- The receive semaphores, as locations. -/
def recvLoc : Fin 7 ↪ SemLoc sig := ⟨fun j => .dma (recvSem j), fun j k h => recvSem_inj j k (SemLoc.dma.inj h)⟩

omit [FloatOps F] in
theorem creds (c : Dev nD) :
    (Pipeline.launchCred O₀ c : sProp 𝕄) ⊢ iprop(cred (tallyAt (barCell c) () 7) ∗ bigSep Finset.univ fun j => cred (tallyAt (recvCell c j) () N)) := by
  unfold Pipeline.launchCred
  rw [bigSep_univ_at _ (SemLoc.reg barS), launch_bar]
  refine sep_mono_right ?_
  have e : (bigSep Finset.univ fun j => cred (tallyAt (recvCell c j) () N) : sProp 𝕄)
      = bigSep (Finset.univ.map recvLoc) fun sm => cred (tallyOn ((c : Thread nD τ), sm) (launchCredit (Pipeline.owing O₀) 0 ((c : Thread nD τ), sm))) := by
    rw [bigSep_map]
    exact bigSep_congr fun j _ => by rw [← launch_recv]; rfl
  rw [e]
  refine bigSep_subset fun x hx => ?_
  obtain ⟨j, -, rfl⟩ := Finset.mem_map.mp hx
  exact Finset.mem_erase.mpr ⟨recv_ne_bar j, Finset.mem_univ _⟩

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' linear
  rw [bigSep_cells]
  iintro ⟨-, Hlev, Hcr, -, HK, ⟨HaB, HaS, HaR⟩, Ht1, Ht2, Ht3⟩
  ihave Hc := (creds (F := F) c) $$ Hcr
  icases Hc with ⟨HcB, HcR⟩
  imodintro
  unfold start kit recvNeed
  rw [bigSep_sep']
  isplitl
  · isplitl [HK]; · iexact HK
    isplitl [Hlev]; · iexact Hlev
    isplitl [HcB HaB Ht2 Ht3 HcR HaR HaS]
    · isplitl [HcB]; · iexact HcB
      isplitl [HaB]; · iexact HaB
      isplitl [Ht2]; · iexact Ht2
      isplitl [Ht3]; · iexact Ht3
      isplitl [HcR HaR]
      · isplitl [HcR]; · iexact HcR
        iexact HaR
      iexact HaS
    iexact Ht1
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ ∃ f, ((c : Thread nD τ).loc cc0_scratch0) ↦{fullShare} f) from rfl, scopedRest0_eq]
  iintro ⟨Hs, -, Hr⟩
  isplitl [Hs]; · iexact Hs
  iexact Hr

theorem phi_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = finish m ρ c from
    (show phiAt m ρ c grid0.N = _ by rw [N_0]; exact phi_end m ρ c), scopedRest0_eq, ownSems0_eq, unscopedSems0_eq]
  unfold finish
  iintro ⟨Hg, HzS, HzR, HzB⟩
  isplitl [HzB]; · iexact HzB
  isplitl [HzS HzR]
  · isplitl [HzS] <;> iassumption
  iexists (gathered m ρ c); iexact Hg

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | n, ht⟩
      · exact Or.inl rfl
      · refine Or.inr ?_
        show owedAt c (n + 1) = _ ∨ owedAt c (n + 1) = _
        by_cases h : n < 7
        · exact Or.inl (owed_mid c n h)
        · exact Or.inr (if_neg h))

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution of the eight devices ends, with
    each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun c => show owedAt c grid0.N = 0 by rw [N_0]; exact owed_end c)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument holds after the run what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result holds the reduced rows. -/
theorem finalA_out (c : Dev nD) : finalA m ρ c (1 : Fin 2) = outAt m ρ c := by
  unfold finalA
  refine (dats m ρ 0 c).arrAt_eq_of_after_last (1 : Fin 2) t0_7 (by decide +kernel) _ fun j => ?_
  rfl

end Cert.KernelIdeal.Gather

end
-- ==== Proof.RefI.lean ====
/-
# The run of the reference

The reference is a straight line of host operations on one device.  It is run once, and
what its result holds is named `refOut`.
-/
module

public import proofs.«01_k».proof.Proof.Gen.ReferenceIdeal
public import Idealize.ShloMosaic.Lib.StableHlo.Run
public import Idealize.ShloMosaic.Lib.Quiescent

@[expose] public section

set_option maxRecDepth 16384

noncomputable section

namespace Cert.ReferenceIdeal.Plain

open Cert.ReferenceIdeal Cert.ReferenceIdeal.Gen
open Idealize.ShloMosaic Idealize.ShloMosaic.TcCoe Idealize.ShloMosaic.StableHlo Idealize.SL.Sem

variable {F : FTy → Type} [FloatOps F]

/-- The greatest entry of every column. -/
def refMax (x : (⟨S65536x1024, .f32⟩ : BufTy).Contents (Elt F)) : (⟨S1024, .f32⟩ : BufTy).Contents (Elt F) :=
  Host.reduce FloatOps.maximumf x (constant S_ .f32 0xFF800000#32) reducesTo_S65536x1024_S1024_d0 h_S_

/-- The row of the greatest entry of every column, as an integer. -/
def refArg (x : (⟨S65536x1024, .f32⟩ : BufTy).Contents (Elt F)) : (⟨S1024, .i32⟩ : BufTy).Contents (Elt F) :=
  fun j => (Host.argReduce reducer_argmax_f32_i32 x (iotaInDim S65536x1024 32 0) (constant S_ .f32 0xFF800000#32)
    (constantI S_ 32 0#32) reducesTo_S65536x1024_S1024_d0 h_S_ j).2

/-- The reference's result: the maxima in row 0, their rows (as floats) in row 1. -/
def refOut (x : (⟨S65536x1024, .f32⟩ : BufTy).Contents (Elt F)) : (⟨S2x1024, .f32⟩ : BufTy).Contents (Elt F) :=
  concatenate S2x1024 0
    [⟨S1x1024, broadcastInDim S1x1024 ![1] bcast_S1024_S1x1024_1 (refMax x)⟩,
     ⟨S1x1024, broadcastInDim S1x1024 ![1] bcast_S1024_S1x1024_1 (sitofp .f32 (refArg (F := F) x))⟩]
    concatenates_S1x1024_S1x1024_S2x1024_d0

/-- The operations of the reference, those of the called argmax first. -/
abbrev line : List (HloOp τ sig (Elt F)) :=
  [ nullary main_call0_v0 (iotaInDim S65536x1024 32 0),
    nullary main_call0_cst (constant S_ .f32 0xFF800000#32),
    nullary main_call0_c (constantI S_ 32 0#32),
    quaternary main_arg0 main_call0_v0 main_call0_cst main_call0_c main_call0_v1_0
      (fun x y u v j => (Host.argReduce reducer_argmax_f32_i32 x y u v reducesTo_S65536x1024_S1024_d0 h_S_ j).1),
    quaternary main_arg0 main_call0_v0 main_call0_cst main_call0_c main_v0
      (fun x y u v j => (Host.argReduce reducer_argmax_f32_i32 x y u v reducesTo_S65536x1024_S1024_d0 h_S_ j).2),
    unary main_v0 main_v1 (sitofp .f32),
    nullary main_cst (constant S_ .f32 0xFF800000#32),
    binary main_arg0 main_cst main_v2
      (fun x v => Host.reduce FloatOps.maximumf x v reducesTo_S65536x1024_S1024_d0 h_S_),
    unary main_v2 main_v3 (broadcastInDim S1x1024 ![1] bcast_S1024_S1x1024_1),
    unary main_v1 main_v4 (broadcastInDim S1x1024 ![1] bcast_S1024_S1x1024_1),
    binary main_v3 main_v4 main_v5
      (fun a b => concatenate S2x1024 0 [⟨S1x1024, a⟩, ⟨S1x1024, b⟩] concatenates_S1x1024_S1x1024_S2x1024_d0) ]

/-- The program is that line. -/
theorem main_line (c : Dev nD) : main (F := F) c = seq line := rfl

/-- After the line the result buffer holds `refOut` of the argument, -/
theorem after_out (V : Valuation τ sig (Elt F)) :
    after line V (main_v5 : DevRef τ sig) = refOut (F := F) (V (main_arg0 : DevRef τ sig)) := by
  after_results
  rfl

/-- and the argument is as it was. -/
theorem after_arg (V : Valuation τ sig (Elt F)) :
    after line V (main_arg0 : DevRef τ sig) = V (main_arg0 : DevRef τ sig) := by
  after_results

/-- Every operation names buffers of the TensorCore only. -/
theorem line_sub : (line : List (HloOp τ sig (Elt F))).Forall fun op => op.bufs ⊆ tcRefs τ sig :=
  ⟨nullary_bufs_sub .., nullary_bufs_sub .., nullary_bufs_sub .., quaternary_bufs_sub .., quaternary_bufs_sub ..,
    unary_bufs_sub .., nullary_bufs_sub .., binary_bufs_sub .., unary_bufs_sub .., unary_bufs_sub .., binary_bufs_sub ..⟩

/-- The reference ends with `refOut` of its argument in the result, the argument as it was and every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v5) = refOut (F := F) (m ((c.tc : Thread nD τ).loc main_arg0))
        ∧ r.2.mem ((c.tc : Thread nD τ).loc main_arg0) = m ((c.tc : Thread nD τ).loc main_arg0))
      ∧ r.2.sem = fun _ => 0 :=
  (θ_run defs _ _).mono (fun r h => ⟨fun c => ⟨(h c main_v5).trans (after_out _), (h c main_arg0).trans (after_arg _)⟩,
      sem_eq_zero_of_no_sems (by decide) r.2⟩)
    (run_seq (by decide) (by decide) defs main (fun _ => line) main_line (fun _ => line_sub) m ρ)

end Cert.ReferenceIdeal.Plain

end
-- ==== Proof.ArgMax.lean ====
/-
# The greatest value of a stretch of a sequence and the first place that has it

The kernel and the reference both compute, of a column of extended reals, the greatest
entry and the first row that holds it.  `Best f a b v i` says that of the stretch
`[a, b)` of a sequence.  The pair is unique; stretches join; and a fold of an operation
that picks one of its operands gives such a pair.
-/
module

public import Idealize.ShloMosaic.Init
public import Idealize.ShloMosaic.PureOps.Ideal.Laws

@[expose] public section

noncomputable section

namespace Cert.ArgMax

/-- On `[a, b)` the greatest value of `f` is `v`, and `i` is the first place that has it. -/
structure Best (f : ℕ → EReal) (a b : ℕ) (v : EReal) (i : ℕ) : Prop where
  lo : a ≤ i
  hi : i < b
  val : f i = v
  top : ∀ k, a ≤ k → k < b → f k ≤ v
  first : ∀ k, a ≤ k → k < i → f k < v

variable {f : ℕ → EReal} {a b c : ℕ} {v w : EReal} {i j : ℕ}

/-- There is one such value only, -/
theorem Best.val_unique (h : Best f a b v i) (h' : Best f a b w j) : v = w :=
  le_antisymm (h.val ▸ h'.top i h.lo h.hi) (h'.val ▸ h.top j h'.lo h'.hi)

/-- and one such place only. -/
theorem Best.place_unique (h : Best f a b v i) (h' : Best f a b w j) : i = j := by
  have e := h.val_unique h'
  subst e
  rcases lt_trichotomy i j with hl | he | hg
  · exact absurd (h'.first i h.lo hl) (by rw [h.val]; exact lt_irrefl _)
  · exact he
  · exact absurd (h.first j h'.lo hg) (by rw [h'.val]; exact lt_irrefl _)

/-- A later stretch with a greater value takes over, -/
theorem Best.join_right (h : Best f a b v i) (h' : Best f b c w j) (hab : a ≤ b) (hlt : v < w) : Best f a c w j where
  lo := hab.trans h'.lo
  hi := h'.hi
  val := h'.val
  top k hk hk' := by
    rcases Nat.lt_or_ge k b with hb | hb
    · exact (h.top k hk hb).trans hlt.le
    · exact h'.top k hb hk'
  first k hk hk' := by
    rcases Nat.lt_or_ge k b with hb | hb
    · exact (h.top k hk hb).trans_lt hlt
    · exact h'.first k hb hk'

/-- one with none greater does not. -/
theorem Best.join_left (h : Best f a b v i) (h' : Best f b c w j) (hbc : b ≤ c) (hle : w ≤ v) : Best f a c v i where
  lo := h.lo
  hi := h.hi.trans_le hbc
  val := h.val
  top k hk hk' := by
    rcases Nat.lt_or_ge k b with hb | hb
    · exact h.top k hk hb
    · exact (h'.top k hb hk').trans hle
  first := h.first

/-- Of equal stretches of length `n` laid one after the other, with the best of each known: the greatest of those values and the
    least of the places that have it are the best of all. -/
theorem Best.of_parts {N n : ℕ} (vs : Fin N → EReal) (is : Fin N → ℕ) (h : ∀ d : Fin N, Best f (n * d.val) (n * (d.val + 1)) (vs d) (is d))
    (d₀ : Fin N) (htop : ∀ d, vs d ≤ vs d₀) (hmin : ∀ d, vs d = vs d₀ → is d₀ ≤ is d) : Best f 0 (n * N) (vs d₀) (is d₀) where
  lo := Nat.zero_le _
  hi := (h d₀).hi.trans_le (Nat.mul_le_mul_left n d₀.isLt)
  val := (h d₀).val
  top k _ hk := by
    have hd : k / n < N := Nat.div_lt_of_lt_mul hk
    have hn : 0 < n := Nat.pos_of_ne_zero fun h0 => by subst h0; simp at hk
    exact ((h ⟨k / n, hd⟩).top k (Nat.mul_div_le k n) (Nat.lt_mul_div_succ k hn)).trans (htop _)
  first k _ hk := by
    have hk' : k < n * N := hk.trans ((h d₀).hi.trans_le (Nat.mul_le_mul_left n d₀.isLt))
    have hd : k / n < N := Nat.div_lt_of_lt_mul hk'
    have hn : 0 < n := Nat.pos_of_ne_zero fun h0 => by subst h0; simp at hk'
    have hb := h ⟨k / n, hd⟩
    have hle := hb.top k (Nat.mul_div_le k n) (Nat.lt_mul_div_succ k hn)
    rcases (htop ⟨k / n, hd⟩).lt_or_eq with hlt | heq
    · exact hle.trans_lt hlt
    · have hi := hmin _ heq
      exact heq ▸ hb.first k (Nat.mul_div_le k n) (hk.trans_le hi)

/-! ## Folds of an operation that picks one of its operands -/

variable {α ι : Type}

/-- `op` gives one of its operands, one that `R` puts before both. -/
structure Picks (R : α → α → Prop) (op : α → α → α) : Prop where
  one : ∀ x y, op x y = x ∨ op x y = y
  left : ∀ x y, R (op x y) x
  right : ∀ x y, R (op x y) y
  refl : ∀ x, R x x
  trans : ∀ x y z, R x y → R y z → R x z

/-- A fold over a list gives the start or an entry, and is before all of them. -/
theorem Picks.foldl {R : α → α → Prop} {op : α → α → α} (h : Picks R op) (l : List α) (s : α) :
    (l.foldl op s = s ∨ l.foldl op s ∈ l) ∧ R (l.foldl op s) s ∧ ∀ x ∈ l, R (l.foldl op s) x := by
  induction l generalizing s with
  | nil => exact ⟨.inl rfl, h.refl s, fun x hx => absurd hx List.not_mem_nil⟩
  | cons y l ih =>
    obtain ⟨h1, h2, h3⟩ := ih (op s y)
    rw [List.foldl_cons]
    refine ⟨?_, h.trans _ _ _ h2 (h.left s y), fun x hx => ?_⟩
    · rcases h1 with h1 | h1
      · rcases h.one s y with e | e
        · exact .inl (h1.trans e)
        · exact .inr (by rw [h1, e]; exact List.mem_cons_self)
      · exact .inr (List.mem_cons_of_mem _ h1)
    · rcases List.mem_cons.mp hx with rfl | hx
      · exact h.trans _ _ _ h2 (h.right s x)
      · exact h3 x hx

/-- The same of a fold over a finite set. -/
theorem Picks.fold {R : α → α → Prop} {op : α → α → α} [Std.Commutative op] [Std.Associative op] (h : Picks R op)
    (S : Finset ι) (s : α) (g : ι → α) :
    (S.fold op s g = s ∨ ∃ k ∈ S, S.fold op s g = g k) ∧ R (S.fold op s g) s ∧ ∀ k ∈ S, R (S.fold op s g) (g k) := by
  classical
  induction S using Finset.induction_on with
  | empty => exact ⟨.inl (Finset.fold_empty ..), by rw [Finset.fold_empty]; exact h.refl s, fun k hk => absurd hk (Finset.notMem_empty k)⟩
  | insert y S hy ih =>
    obtain ⟨h1, h2, h3⟩ := ih
    rw [Finset.fold_insert hy]
    refine ⟨?_, h.trans _ _ _ (h.right _ _) h2, fun k hk => ?_⟩
    · rcases h.one (g y) (S.fold op s g) with e | e
      · exact .inr ⟨y, Finset.mem_insert_self .., e⟩
      · rcases h1 with h1 | ⟨k, hk, h1⟩
        · exact .inl (e.trans h1)
        · exact .inr ⟨k, Finset.mem_insert_of_mem hk, e.trans h1⟩
    · rcases Finset.mem_insert.mp hk with rfl | hk
      · exact h.left _ _
      · exact h.trans _ _ _ (h.right _ _) (h3 k hk)

/-- The greater of two extended reals. -/
theorem picks_max : Picks (fun x y : EReal => y ≤ x) max :=
  ⟨max_choice, fun _ _ => le_max_left _ _, fun _ _ => le_max_right _ _, fun _ => le_rfl, fun _ _ _ h h' => h'.trans h⟩

/-- The lesser of two extended reals. -/
theorem picks_min : Picks (fun x y : EReal => x ≤ y) min :=
  ⟨min_choice, fun _ _ => min_le_left _ _, fun _ _ => min_le_right _ _, fun _ => le_rfl, fun _ _ _ h h' => h.trans h'⟩

open Idealize.ShloMosaic in
/-- The lesser of two signed words. -/
theorem picks_minsi : Picks (fun x y : BitVec 32 => x.toInt ≤ y.toInt) IntOp.minsi := by
  have key : ∀ x y : BitVec 32, (IntOp.minsi x y = x ∧ x.toInt ≤ y.toInt) ∨ (IntOp.minsi x y = y ∧ y.toInt ≤ x.toInt) := fun x y => by
    unfold IntOp.minsi
    by_cases h : x.slt y = true
    · exact .inl ⟨if_pos h, (BitVec.slt_iff_toInt_lt.mp h).le⟩
    · exact .inr ⟨if_neg h, by rw [BitVec.slt_iff_toInt_lt] at h; omega⟩
  refine ⟨fun x y => ?_, fun x y => ?_, fun x y => ?_, fun _ => le_rfl, fun _ _ _ h h' => h.trans h'⟩
  all_goals rcases key x y with ⟨e, h⟩ | ⟨e, h⟩
  all_goals first | exact .inl e | exact .inr e | (rw [e]; done) | (rw [e]; exact h)

/-- From `⊥`, the fold of `max` over all of a nonempty finite type is attained and is above every entry. -/
theorem fold_max_univ [Fintype ι] [Nonempty ι] (g : ι → EReal) :
    (∃ k, g k = Finset.univ.fold max ⊥ g) ∧ ∀ k, g k ≤ Finset.univ.fold max ⊥ g := by
  obtain ⟨h1, -, h3⟩ := picks_max.fold Finset.univ ⊥ g
  refine ⟨?_, fun k => h3 k (Finset.mem_univ k)⟩
  rcases h1 with h1 | ⟨k, -, h1⟩
  · exact ⟨Classical.arbitrary ι, le_antisymm (h3 _ (Finset.mem_univ _)) (h1.trans_le bot_le)⟩
  · exact ⟨k, h1.symm⟩

end Cert.ArgMax

end
-- ==== Proof.ValI.lean ====
/-
# The values: what the payloads compute on extended reals
-/
module

public import proofs.«01_k».proof.Proof.RowsI
public import proofs.«01_k».proof.Proof.ArgMax
public import Idealize.ShloMosaic.Lib.Pointwise
public import Idealize.ShloMosaic.Lib.Pipeline.Value
public import Idealize.ShloMosaic.PureOps.Ideal.Laws

@[expose] public section

set_option maxRecDepth 16384

noncomputable section

namespace Cert.KernelIdeal.Gather

open Cert.KernelIdeal Cert.KernelIdeal.Gen Cert.ArgMax

open Idealize.ShloMosaic Idealize.ShloMosaic.TcCoe

/-- The start of a running maximum. -/
theorem neg_inf : FloatOps.ofBits (F := Ideal) .f32 0xFF800000#32 = (⊥ : EReal) := by
  simp [Ideal.ofBits, Ideal.ieee]

/-- The start of a running minimum. -/
theorem pos_inf : FloatOps.ofBits (F := Ideal) .f32 0x7F800000#32 = (⊤ : EReal) := by
  simp [Ideal.ofBits, Ideal.ieee]

theorem rowIx_eq (k : Fin 1024) : rowIx k = ix3 (0 : Fin 1) (0 : Fin 1) k := by
  funext c; fin_cases c <;> rfl
theorem colIx_eq (k : Fin 1024) : colIx k = ix2 (0 : Fin 1) k := by
  funext c; fin_cases c <;> rfl

theorem lift_col (h : S1024x1024.Reduces [0] S1024) (k r : Fin 1024) : h.lift (ix1 k) r = ix2 r k := by
  funext c; apply Fin.ext
  fin_cases c <;> rfl

theorem pay2_apply (v : Vec Ideal S1024x1024 .f32) (k : Fin 1024) :
    k0_pay2 v (ix1 k) = (Finset.univ : Finset (Fin 1024)).fold max ⊥ fun r => v (ix2 r k) := by
  rw [← neg_inf]
  unfold k0_pay2 k0_pay1
  pointwise

theorem pay4_apply (v : Vec Ideal S1024x1024 .f32) (k : Fin 1024) : k0_pay4 v (rowIx k) = k0_pay2 v (ix1 k) := by
  unfold k0_pay4
  rw [rowIx_eq]
  pointwise

theorem pay5_apply (i : grid0.Coords) (d : Dev nD) (v : Vec Ideal S1024x1024 .f32) (k : Fin 1024) :
    k0_pay5 i d v (rowIx k) = k0_pay3 i d v (ix1 k) := by
  unfold k0_pay5
  rw [rowIx_eq]
  pointwise

/-- The row numbers of a block are exact words. -/
theorem place_word (d : Dev nD) (t r : ℕ) (ht : t < 8) (hr : r < 1024) :
    (IntOp.addi (IntOp.addi (BitVec.ofNat 32 r) (Scalar.muli (BitVec.ofNat 32 t) 1024#32))
      (Scalar.muli (Scalar.remsi (Scalar.divsi d.word 1#32) 8#32) 8192#32)).toInt = ((8192 * d.val + 1024 * t + r : ℕ) : ℤ) := by
  have hd : Scalar.remsi (Scalar.divsi d.word 1#32) 8#32 = BitVec.ofNat 32 d.val := by revert d; decide
  have hv : d.val < 8 := d.isLt
  rw [hd]
  show (BitVec.ofNat 32 r + BitVec.ofNat 32 t * 1024#32 + BitVec.ofNat 32 d.val * 8192#32).toInt = _
  have e : BitVec.ofNat 32 r + BitVec.ofNat 32 t * 1024#32 + BitVec.ofNat 32 d.val * 8192#32
      = BitVec.ofNat 32 (8192 * d.val + 1024 * t + r) := by
    apply BitVec.eq_of_toNat_eq
    simp only [BitVec.toNat_add, BitVec.toNat_mul, BitVec.toNat_ofNat]
    omega
  rw [e, BitVec.toInt_eq_toNat_of_lt (by rw [BitVec.toNat_ofNat]; omega), BitVec.toNat_ofNat]
  congr 1
  omega

/-- The least row number that the masked fold finds is the first row with the greatest entry. -/
theorem first_row (g : Fin 1024 → EReal) (M : EReal) (hM : ∃ r, g r = M) :
    ∃ r : Fin 1024, g r = M ∧ (∀ r' : Fin 1024, g r' = M → r.val ≤ r'.val) ∧
      (Finset.univ : Finset (Fin 1024)).fold IntOp.minsi 2147483647#32 (fun x => if g x = M then BitVec.ofNat 32 x.val else 1024#32)
        = BitVec.ofNat 32 r.val := by
  obtain ⟨r₁, h₁⟩ := hM
  obtain ⟨h1, -, h3⟩ := picks_minsi.fold Finset.univ 2147483647#32 (fun x : Fin 1024 => if g x = M then BitVec.ofNat 32 x.val else 1024#32)
  have word : ∀ r : Fin 1024, (BitVec.ofNat 32 r.val).toInt = (r.val : ℤ) := fun r => by
    have := r.isLt
    rw [BitVec.toInt_eq_toNat_of_lt (by rw [BitVec.toNat_ofNat]; omega), BitVec.toNat_ofNat]
    congr 1
    omega
  have hle : ∀ r : Fin 1024, g r = M → _ := fun r hr => by
    have := h3 r (Finset.mem_univ r)
    rw [if_pos hr, word] at this
    exact this
  have hl₁ := hle r₁ h₁
  have hlt := r₁.isLt
  rcases h1 with h1 | ⟨r, -, h1⟩
  · rw [h1] at hl₁
    have : (2147483647#32).toInt = 2147483647 := by decide
    omega
  · by_cases hr : g r = M
    · rw [if_pos hr] at h1
      refine ⟨r, hr, fun r' hr' => ?_, h1⟩
      have := hle r' hr'
      rw [h1, word] at this
      omega
    · rw [if_neg hr] at h1
      rw [h1] at hl₁
      have : (1024#32).toInt = 1024 := by decide
      omega

/-- A natural number as an extended real. -/
def num (n : ℕ) : EReal := (((n : ℤ) : ℝ) : EReal)

theorem num_le {a b : ℕ} : num a ≤ num b ↔ a ≤ b := by
  unfold num
  rw [EReal.coe_le_coe_iff]
  simp

/-- The index row of a block: the first row of the greatest entry, counted in the whole array. -/
theorem pay3_apply (i : grid0.Coords) (d : Dev nD) (v : Vec Ideal S1024x1024 .f32) (k : Fin 1024) (t : ℕ) (hi : (i 0).val = t) (ht : t < 8) :
    ∃ r : Fin 1024, v (ix2 r k) = k0_pay2 v (ix1 k) ∧ (∀ r' : Fin 1024, v (ix2 r' k) = k0_pay2 v (ix1 k) → r.val ≤ r'.val) ∧
      k0_pay3 i d v (ix1 k) = num (8192 * d.val + 1024 * t + r.val) := by
  obtain ⟨r, hr, hmin, hw⟩ := first_row (fun r => v (ix2 r k)) (k0_pay2 v (ix1 k)) (by
    rw [pay2_apply]; exact (fold_max_univ _).1)
  refine ⟨r, hr, hmin, ?_⟩
  unfold k0_pay3 k0_pay1
  pointwise
  rw [hw, hi]
  show (((_ : ℤ) : ℝ) : EReal) = _
  rw [place_word d t r.val ht r.isLt]
  rfl

/-- A block's best entry of a column, as a stretch of the column. -/
theorem block_best (f : ℕ → EReal) (i : grid0.Coords) (d : Dev nD) (v : Vec Ideal S1024x1024 .f32) (k : Fin 1024) (t : ℕ)
    (hi : (i 0).val = t) (ht : t < 8) (hf : ∀ r : Fin 1024, f (8192 * d.val + 1024 * t + r.val) = v (ix2 r k)) :
    ∃ n, Best f (8192 * d.val + 1024 * t) (8192 * d.val + 1024 * (t + 1)) (k0_pay2 v (ix1 k)) n ∧ k0_pay3 i d v (ix1 k) = num n := by
  obtain ⟨r, hr, hmin, hp⟩ := pay3_apply i d v k t hi ht
  have htop : ∀ r : Fin 1024, v (ix2 r k) ≤ k0_pay2 v (ix1 k) := fun r => by
    rw [pay2_apply]; exact (fold_max_univ fun r => v (ix2 r k)).2 r
  have at_ : ∀ q, 8192 * d.val + 1024 * t ≤ q → q < 8192 * d.val + 1024 * (t + 1) →
      ∃ r : Fin 1024, q = 8192 * d.val + 1024 * t + r.val := fun q h h' =>
    ⟨⟨q - (8192 * d.val + 1024 * t), by omega⟩, by show q = _ + (q - _); omega⟩
  have hlt := r.isLt
  refine ⟨_, ⟨Nat.le_add_right _ _, by omega, (hf r).trans hr, fun q h h' => ?_, fun q h h' => ?_⟩, hp⟩
  · obtain ⟨r', rfl⟩ := at_ q h h'
    rw [hf]; exact htop r'
  · obtain ⟨r', rfl⟩ := at_ q h (by omega)
    rw [hf]
    refine lt_of_le_of_ne (htop r') fun e => ?_
    have := hmin r' e
    omega

theorem cast_row (u : Vec Ideal S1024 .f32) (k : Fin 1024) : shapeCast S1x1x1024 u shapeCasts_S1024_S1x1x1024 (rowIx k) = u (ix1 k) := by
  rw [rowIx_eq]
  pointwise

theorem pay6_apply (w : Vec Ideal S1x1x1024 .f32) (k : Fin 1024) : k0_pay6 w (ix1 k) = w (rowIx k) :=
  (cast_row (k0_pay6 w) k).symm.trans (congrFun (shapeCast_shapeCast w shapeCasts_S1x1x1024_S1024 shapeCasts_S1024_S1x1x1024) (rowIx k))

/-- For any floats: the mask compares the block's maxima with the running ones. -/
theorem pay7_mask {F : FTy → Type} [FloatOps F] (v : Vec F S1024x1024 .f32) (w : Vec F S1x1x1024 .f32) (j : S1024.Idx) :
    k0_pay7 v w j = FloatOps.cmpf .ogt (k0_pay2 v j) (k0_pay6 w j) := rfl

theorem pay7_apply (v : Vec Ideal S1024x1024 .f32) (w : Vec Ideal S1x1x1024 .f32) (k : Fin 1024) :
    k0_pay7 v w (ix1 k) = Ideal.cmp .ogt (k0_pay2 v (ix1 k)) (w (rowIx k)) := by
  rw [pay7_mask, pay6_apply, Ideal.cmpf_def]

theorem select_ogt {α : Type} (a b : EReal) (x y : α) : Scalar.select (Ideal.cmp .ogt a b) x y = if b < a then x else y := by
  unfold Scalar.select Ideal.cmp
  by_cases h : b < a <;> simp [h]

theorem pay8_apply (v : Vec Ideal S1024x1024 .f32) (w : Vec Ideal S1x1x1024 .f32) (k : Fin 1024) :
    k0_pay8 v w (rowIx k) = if w (rowIx k) < k0_pay2 v (ix1 k) then k0_pay2 v (ix1 k) else w (rowIx k) := by
  have e : k0_pay8 v w = shapeCast S1x1x1024 (fun j => Scalar.select (k0_pay7 v w j) (k0_pay2 v j) (k0_pay6 w j)) shapeCasts_S1024_S1x1x1024 := rfl
  rw [e, cast_row]
  rw [pay7_apply, pay6_apply, select_ogt]

theorem pay9_apply (i : grid0.Coords) (d : Dev nD) (v : Vec Ideal S1024x1024 .f32) (w u : Vec Ideal S1x1x1024 .f32) (k : Fin 1024) :
    k0_pay9 i d v w u (rowIx k) = if w (rowIx k) < k0_pay2 v (ix1 k) then k0_pay3 i d v (ix1 k) else u (rowIx k) := by
  have e : k0_pay9 i d v w u = shapeCast S1x1x1024 (fun j => Scalar.select (k0_pay7 v w j) (k0_pay3 i d v j) (k0_pay6 u j)) shapeCasts_S1024_S1x1x1024 := rfl
  rw [e, cast_row]
  rw [pay7_apply, pay6_apply, select_ogt]

theorem pay11_apply (v : Vec Ideal S8x1x1024 .f32) (k : Fin 1024) :
    k0_pay11 v (ix1 k) = (Finset.univ : Finset (Fin 8)).fold max ⊥ fun x => v (ix3 x (0 : Fin 1) k) := by
  rw [← neg_inf]
  unfold k0_pay11 k0_pay10
  pointwise

theorem pay12_apply (v : Vec Ideal S8x1x1024 .f32) (k : Fin 1024) : k0_pay12 v (colIx k) = k0_pay11 v (ix1 k) := by
  unfold k0_pay12
  rw [colIx_eq]
  pointwise

theorem pay13_apply (v w : Vec Ideal S8x1x1024 .f32) (k : Fin 1024) :
    k0_pay13 v w (colIx k) = (Finset.univ : Finset (Fin 8)).fold min ⊤ fun x =>
      if v (ix3 x (0 : Fin 1) k) = k0_pay11 v (ix1 k) then w (ix3 x (0 : Fin 1) k) else Ideal.ofBits .f32 0x4F6E6B28#32 := by
  rw [← pos_inf]
  unfold k0_pay13 k0_pay10
  rw [colIx_eq]
  pointwise

/-- The value that stands in for a device without the maximum is above every row number. -/
theorem num_lt_far (n : ℕ) (h : n < 65536) : num n < Ideal.ofBits .f32 0x4F6E6B28#32 := by
  have e : Ideal.ofBits .f32 0x4F6E6B28#32 = ((4000000000 : ℝ) : EReal) := by
    have h2 : ((15625000 : ℝ) : EReal) * ((2 : ℝ) : EReal) ^ 8 = ((4000000000 : ℝ) : EReal) := by
      rw [← EReal.coe_pow, ← EReal.coe_mul]
      norm_num
    simp [Ideal.ofBits, Ideal.ieee]
    exact h2
  rw [e]
  unfold num
  rw [EReal.coe_lt_coe_iff]
  have : ((n : ℤ) : ℝ) < 65536 := by exact_mod_cast h
  linarith

end Cert.KernelIdeal.Gather

end
-- ==== Proof.OutI.lean ====
/-
# The values: what the kernel leaves in its result
-/
module

public import proofs.«01_k».proof.Proof.ValI
public import Idealize.ShloMosaic.Lib.Pipeline.ValueKit
public import Idealize.ShloMosaic.Lib.Layout

@[expose] public section

set_option maxRecDepth 16384

noncomputable section

namespace Cert.KernelIdeal.Gather

open Cert.KernelIdeal Cert.KernelIdeal.Gen Cert.ArgMax

open Idealize.ShloMosaic Idealize.ShloMosaic.TcCoe

/-- The shape of the whole argument. -/
abbrev SX : Shape := ⟨2, ![65536, 1024]⟩

/-- Column `k` of the whole argument, as a sequence. -/
def colOf (X : SX.Idx → EReal) (k : Fin 1024) (n : ℕ) : EReal := X (ix2 (⟨n % 65536, Nat.mod_lt _ (by decide)⟩ : Fin 65536) k)

variable (m : (ℓ : Loc nD τ sig) → Buf (Elt Ideal) ℓ) (ρ : Dev nD → PrngReg) (X : SX.Idx → EReal)

theorem index_x (t : Fin cfg0.N) : win0_0.index t (0 : Fin 2) = t.val ∧ win0_0.index t (1 : Fin 2) = 0 := by
  revert t; decide +kernel

theorem coord_pt (t : ℕ) (ht : t < 8) : ((grid0.coords (pt t)) 0).val = t := by
  interval_cases t <;> decide +kernel

/-- An entry of a device's block is an entry of the whole argument. -/
theorem xb_apply (hX : ∀ c : Dev nD, m ((c.tc : Thread nD τ).loc main_arg0) = Layout.block ⟨2, ![8192, 1024]⟩ ⟨2, ![65536, 1024]⟩ 0 8 c X)
    (c : Dev nD) (t : ℕ) (ht : t < 8) (r k : Fin 1024) :
    colOf X k (8192 * c.val + 1024 * t + r.val) = xb m ρ c t (ix2 r k) := by
  have hc : c.val < 8 := c.isLt
  have hr := r.isLt
  have hp : (pt t).val = t := Nat.mod_eq_of_lt ht
  obtain ⟨e0, e1⟩ := index_x (pt t)
  unfold xb
  show _ = m ((c.tc : Thread nD τ).loc main_arg0) ((win0_0.blk (pt t)).view.emb (ix2 r k))
  rw [hX c]
  unfold colOf
  refine congrArg X ?_
  funext a
  apply Fin.ext
  rw [Layout.Tiles.idx_val]
  have h0 : ((win0_0.blk (pt t)).view.emb (ix2 r k) (0 : Fin 2) : ℕ) = 1024 * t + r.val := by
    blk_simp
    rw [e0, hp]
    show t * 1024 + r.val = _
    omega
  have h1 : ((win0_0.blk (pt t)).view.emb (ix2 r k) (1 : Fin 2) : ℕ) = k.val := by
    blk_simp
    rw [e1]
    show 0 * 1024 + k.val = _
    omega
  fin_cases a
  · show (8192 * c.val + 1024 * t + r.val) % 65536 = c.val * 8192 + ((win0_0.blk (pt t)).view.emb (ix2 r k) (0 : Fin 2) : ℕ)
    rw [h0]
    omega
  · show k.val = ((win0_0.blk (pt t)).view.emb (ix2 r k) (1 : Fin 2) : ℕ)
    exact h1.symm

/-- After block `t` a device holds, of every column, the best of its rows so far. -/
theorem acc_best (hX : ∀ c : Dev nD, m ((c.tc : Thread nD τ).loc main_arg0) = Layout.block ⟨2, ![8192, 1024]⟩ ⟨2, ![65536, 1024]⟩ 0 8 c X)
    (c : Dev nD) (k : Fin 1024) (t : ℕ) (ht : t < 8) :
    ∃ n, Best (colOf X k) (8192 * c.val) (8192 * c.val + 1024 * (t + 1)) (accV m ρ c t (rowIx k)) n ∧ accI m ρ c t (rowIx k) = num n := by
  induction t with
  | zero =>
    obtain ⟨n, hb, hn⟩ := block_best (colOf X k) (grid0.coords (pt 0)) c (xb m ρ c 0) k 0 (coord_pt 0 ht) ht (fun r => xb_apply m ρ X hX c 0 ht r k)
    have eV : accV m ρ c 0 (rowIx k) = _ := pay4_apply (xb m ρ c 0) k
    rw [eV]
    exact ⟨n, hb, (pay5_apply _ _ _ k).trans hn⟩
  | succ t ih =>
    obtain ⟨n, hb, hn⟩ := ih (by omega)
    obtain ⟨n', hb', hn'⟩ := block_best (colOf X k) (grid0.coords (pt (t + 1))) c (xb m ρ c (t + 1)) k (t + 1) (coord_pt (t + 1) ht) ht
      (fun r => xb_apply m ρ X hX c (t + 1) ht r k)
    have eV : accV m ρ c (t + 1) (rowIx k) = _ := pay8_apply (xb m ρ c (t + 1)) (accV m ρ c t) k
    have eI : accI m ρ c (t + 1) (rowIx k) = _ := pay9_apply (grid0.coords (pt (t + 1))) c (xb m ρ c (t + 1)) (accV m ρ c t) (accI m ρ c t) k
    rw [eV, eI]
    by_cases h : accV m ρ c t (rowIx k) < k0_pay2 (xb m ρ c (t + 1)) (ix1 k)
    · rw [if_pos h, if_pos h]
      exact ⟨n', hb.join_right hb' (Nat.le_add_right _ _) h, hn'⟩
    · rw [if_neg h, if_neg h]
      exact ⟨n, hb.join_left hb' (by omega) (not_lt.mp h), hn⟩

theorem nbr_onto : ∀ c d : Dev nD, ∃ x : Fin 8, nbr c x = d := by decide

/-- On every device the result's rows are, of every column of the whole argument, the greatest entry and the first row that has it. -/
theorem out_best (hX : ∀ c : Dev nD, m ((c.tc : Thread nD τ).loc main_arg0) = Layout.block ⟨2, ![8192, 1024]⟩ ⟨2, ![65536, 1024]⟩ 0 8 c X)
    (c : Dev nD) (k : Fin 1024) :
    ∃ n, Best (colOf X k) 0 65536 (k0_pay12 (gV m ρ c) (colIx k)) n ∧ k0_pay13 (gV m ρ c) (gI m ρ c) (colIx k) = num n := by
  choose is hb hn using fun d : Dev nD => acc_best m ρ X hX d k 7 (by decide)
  have hb' : ∀ d : Fin 8, Best (colOf X k) (8192 * d.val) (8192 * (d.val + 1)) (accV m ρ d 7 (rowIx k)) (is d) := fun d => by
    have := hb d
    rwa [show 8192 * d.val + 1024 * (7 + 1) = 8192 * (d.val + 1) by omega] at this
  rw [pay12_apply, pay13_apply]
  have gv : ∀ x : Fin 8, gV m ρ c (ix3 x (0 : Fin 1) k) = accV m ρ (nbr c x) 7 (rowIx k) := fun _ => rfl
  have gi : ∀ x : Fin 8, gI m ρ c (ix3 x (0 : Fin 1) k) = num (is (nbr c x)) := fun x => hn (nbr c x)
  obtain ⟨⟨x₁, hx₁⟩, htop⟩ := fold_max_univ fun x : Fin 8 => gV m ρ c (ix3 x (0 : Fin 1) k)
  rw [← pay11_apply] at hx₁ htop
  generalize k0_pay11 (gV m ρ c) (ix1 k) = M at hx₁ htop ⊢
  obtain ⟨h1, -, h3⟩ := picks_min.fold Finset.univ ⊤ fun x : Fin 8 =>
    if gV m ρ c (ix3 x (0 : Fin 1) k) = M then gI m ρ c (ix3 x (0 : Fin 1) k) else Ideal.ofBits .f32 0x4F6E6B28#32
  generalize ((Finset.univ : Finset (Fin 8)).fold min ⊤ fun x : Fin 8 =>
    if gV m ρ c (ix3 x (0 : Fin 1) k) = M then gI m ρ c (ix3 x (0 : Fin 1) k) else Ideal.ofBits .f32 0x4F6E6B28#32) = R at h1 h3 ⊢
  have hle : ∀ x : Fin 8, gV m ρ c (ix3 x (0 : Fin 1) k) = M → R ≤ num (is (nbr c x)) := fun x hx => by
    have := h3 x (Finset.mem_univ x)
    rw [if_pos hx, gi] at this
    exact this
  have hfar : R < Ideal.ofBits .f32 0x4F6E6B28#32 := (hle x₁ hx₁).trans_lt (num_lt_far _ (by
    have := (hb' (nbr c x₁)).hi
    have h8 : (nbr c x₁).val < 8 := (nbr c x₁).isLt
    omega))
  rcases h1 with h1 | ⟨x₂, -, h1⟩
  · exact absurd hfar (by rw [h1]; exact not_top_lt)
  by_cases hx₂ : gV m ρ c (ix3 x₂ (0 : Fin 1) k) = M
  · rw [if_pos hx₂, gi] at h1
    refine ⟨is (nbr c x₂), ?_, h1⟩
    have e : accV m ρ (nbr c x₂) 7 (rowIx k) = M := hx₂
    have := Best.of_parts (N := 8) (n := 8192) (fun d : Dev nD => accV m ρ d 7 (rowIx k)) is hb' (nbr c x₂)
      (fun d => by
        obtain ⟨x, rfl⟩ := nbr_onto c d
        exact (htop x).trans_eq e.symm)
      (fun d hd => by
        obtain ⟨x, rfl⟩ := nbr_onto c d
        have := hle x (hd.trans e)
        rw [h1] at this
        exact num_le.mp this)
    rw [← e]
    exact this
  · rw [if_neg hx₂] at h1
    exact absurd hfar (by rw [h1]; exact lt_irrefl _)

end Cert.KernelIdeal.Gather

end
-- ==== Proof.RefVal.lean ====
/-
# The values: what the reference's result is on extended reals
-/
module

public import proofs.«01_k».proof.Proof.RefI
public import proofs.«01_k».proof.Proof.ArgMax
public import Idealize.ShloMosaic.Lib.Pointwise
public import Idealize.ShloMosaic.PureOps.Ideal.Laws

@[expose] public section

set_option maxRecDepth 16384

noncomputable section

namespace Cert.ReferenceIdeal.Plain

open Cert.ReferenceIdeal Cert.ReferenceIdeal.Gen Cert.ArgMax
open Idealize.ShloMosaic Idealize.ShloMosaic.TcCoe

/-- What is before what in an argmax: a greater value, or the same value at a lesser index. -/
def Before (p q : EReal × BitVec 32) : Prop := q.1 < p.1 ∨ (p.1 = q.1 ∧ p.2.toInt ≤ q.2.toInt)

/-- The body of the reference's argmax keeps the pair that is before the other. -/
theorem picks_argmax : Picks Before (reducer_argmax_f32_i32 (F := Ideal)) := by
  have key : ∀ p q : EReal × BitVec 32, (reducer_argmax_f32_i32 (F := Ideal) p q = p ∧ Before p q) ∨
      (reducer_argmax_f32_i32 (F := Ideal) p q = q ∧ Before q p) := fun p q => by
    obtain ⟨a, i⟩ := p
    obtain ⟨b, j⟩ := q
    have hred : reducer_argmax_f32_i32 (F := Ideal) (a, i) (b, j)
        = (Scalar.select (IntOp.ori (Ideal.cmp .ogt a b) (Ideal.cmp .une a a)) a b,
          Scalar.select (IntOp.ori (IntOp.ori (Ideal.cmp .ogt a b) (Ideal.cmp .une a a)) (IntOp.andi (Ideal.cmp .oeq a b) (IntOp.cmpi .slt i j))) i j) := rfl
    have hune : Ideal.cmp .une a a = 0#1 := by simp [Ideal.cmp]
    rw [hred, hune]
    unfold Before
    rcases lt_trichotomy b a with h | h | h
    · left
      have h1 : Ideal.cmp .ogt a b = 1#1 := by simp [Ideal.cmp, h]
      rw [h1]
      generalize IntOp.andi (Ideal.cmp .oeq a b) (IntOp.cmpi .slt i j) = u
      refine ⟨?_, .inl h⟩
      have hu : ∀ u : BitVec 1, IntOp.ori (IntOp.ori 1#1 0#1) u = 1#1 := by decide
      rw [hu]
      rfl
    · subst h
      have h1 : Ideal.cmp .ogt b b = 0#1 := by simp [Ideal.cmp]
      have h2 : Ideal.cmp .oeq b b = 1#1 := by simp [Ideal.cmp]
      rw [h1, h2]
      by_cases hij : i.slt j = true
      · left
        exact ⟨by simp [Scalar.select, IntOp.ori, IntOp.andi, IntOp.cmpi, hij], .inr ⟨rfl, (BitVec.slt_iff_toInt_lt.mp hij).le⟩⟩
      · right
        refine ⟨by simp [Scalar.select, IntOp.ori, IntOp.andi, IntOp.cmpi, hij], .inr ⟨rfl, ?_⟩⟩
        rw [BitVec.slt_iff_toInt_lt] at hij
        exact not_lt.mp hij
    · right
      have h1 : Ideal.cmp .ogt a b = 0#1 := by simp [Ideal.cmp, not_lt.mpr h.le]
      have h2 : Ideal.cmp .oeq a b = 0#1 := by simp [Ideal.cmp, h.ne]
      rw [h1, h2]
      exact ⟨by simp [Scalar.select, IntOp.ori, IntOp.andi], .inl h⟩
  have rfl_ : ∀ p, Before p p := fun p => .inr ⟨rfl, le_rfl⟩
  refine ⟨fun p q => ?_, fun p q => ?_, fun p q => ?_, rfl_, ?_⟩
  · rcases key p q with h | h
    · exact .inl h.1
    · exact .inr h.1
  · rcases key p q with h | h
    · rw [h.1]; exact rfl_ p
    · rw [h.1]; exact h.2
  · rcases key p q with h | h
    · rw [h.1]; exact h.2
    · rw [h.1]; exact rfl_ q
  · rintro p q r (h | ⟨h, h'⟩) (g | ⟨g, g'⟩)
    · exact .inl (g.trans h)
    · exact .inl (g ▸ h)
    · exact .inl (h ▸ g)
    · exact .inr ⟨h.trans g, h'.trans g'⟩

theorem reduces_rows : S65536x1024.Reduces [0] S1024 := by decide

theorem lift_row (k : Fin 1024) (r : Fin (S65536x1024.size 0)) : reduces_rows.lift (ix1 k) r = ix2 (⟨r.val, r.isLt⟩ : Fin 65536) k := by
  funext c; apply Fin.ext
  fin_cases c <;> rfl

/-- The pairs over which the argmax of column `k` is folded are the rows' entries with the rows' numbers. -/
theorem mem_fiber (x : S65536x1024.Idx → EReal) (y : S65536x1024.Idx → BitVec 32) (k : Fin 1024) (p : EReal × BitVec 32) :
    p ∈ Host.argReduceFiber x y reducesTo_S65536x1024_S1024_d0 (ix1 k) ↔ ∃ r : Fin 65536, p = (x (ix2 r k), y (ix2 r k)) := by
  unfold Host.argReduceFiber
  rw [List.mem_map]
  constructor
  · rintro ⟨n, hn, rfl⟩
    have hd := of_decide_eq_true (List.mem_filter.mp hn).2
    rw [Shape.ReducesTo.drop_eq_drop _ reduces_rows] at hd
    have e := reduces_rows.lift_drop (S65536x1024.rowMajor.symm n)
    rw [hd, lift_row] at e
    exact ⟨_, by rw [← e]⟩
  · rintro ⟨r, rfl⟩
    refine ⟨S65536x1024.rowMajor (ix2 r k), List.mem_filter.mpr ⟨List.mem_finRange _, decide_eq_true ?_⟩, ?_⟩
    · rw [Equiv.symm_apply_apply, Shape.ReducesTo.drop_eq_drop _ reduces_rows]
      exact (congrArg reduces_rows.drop (lift_row k r)).symm.trans (reduces_rows.drop_lift (ix1 k) r)
    · rw [Equiv.symm_apply_apply]

theorem neg_inf : FloatOps.ofBits (F := Ideal) .f32 0xFF800000#32 = (⊥ : EReal) := by
  simp [Ideal.ofBits, Ideal.ieee]

/-- For any floats: a constant reads its word. -/
theorem constant_at {F : FTy → Type} [FloatOps F] (s : Shape) (b : BitVec 32) (i : s.Idx) :
    constant (F := F) s .f32 b i = FloatOps.ofBits .f32 b := rfl
theorem constantI_at (s : Shape) (b : BitVec 32) (i : s.Idx) : constantI s 32 b i = b := rfl

theorem refMax_apply (x : S65536x1024.Idx → EReal) (k : Fin 1024) :
    refMax (F := Ideal) x (ix1 k) = (Finset.univ : Finset (Fin 65536)).fold max ⊥ fun r => x (ix2 r k) := by
  unfold refMax
  rw [Host.reduce_eq_fold_single _ _ _ _ reduces_rows]
  rw [constant_at, neg_inf]
  refine Finset.fold_congr fun r _ => ?_
  exact congrArg x (lift_row k r)

/-- The word of a row. -/
theorem row_word (n : ℕ) (h : n < 65536) : (BitVec.ofNat 32 n).toInt = (n : ℤ) := by
  rw [BitVec.toInt_eq_toNat_of_lt (by rw [BitVec.toNat_ofNat]; omega), BitVec.toNat_ofNat]
  congr 1
  omega

/-- The argmax folded over the pairs of a column: its index is the first row of the greatest entry. -/
theorem argmax_of_pairs (g : Fin 65536 → EReal) (M : EReal) (hM : ∃ r, g r = M) (htop : ∀ r, g r ≤ M) (f : ℕ → EReal)
    (hf : ∀ r : Fin 65536, f r.val = g r) (L : List (EReal × BitVec 32))
    (hL : ∀ p, Iff (p ∈ L) (∃ r : Fin 65536, p = (g r, BitVec.ofNat 32 r.val))) :
    ∃ n, n < 65536 ∧ Best f 0 65536 M n ∧ (L.foldl (reducer_argmax_f32_i32 (F := Ideal)) ((⊥ : EReal), 0#32)).2 = BitVec.ofNat 32 n := by
  obtain ⟨r₁, hr₁⟩ := hM
  obtain ⟨h1, -, h3⟩ := picks_argmax.foldl L ((⊥ : EReal), 0#32)
  generalize L.foldl (reducer_argmax_f32_i32 (F := Ideal)) ((⊥ : EReal), 0#32) = R at h1 h3 ⊢
  have hbef : ∀ r : Fin 65536, Before R (g r, BitVec.ofNat 32 r.val) := fun r => h3 _ ((hL _).mpr ⟨r, rfl⟩)
  have hle : ∀ r : Fin 65536, g r ≤ R.1 := fun r => (hbef r).elim (fun h => h.le) fun h => h.1.ge
  have hfst : ∀ r : Fin 65536, g r = R.1 → R.2.toInt ≤ (r.val : ℤ) := fun r hr => by
    rcases hbef r with h | h
    · exact absurd hr (ne_of_lt h)
    · rw [← row_word r.val r.isLt]; exact h.2
  -- the fold's pair is a row's entry with the row's number, the start being row 0's where every entry is `⊥`
  obtain ⟨r, hr, hw⟩ : ∃ r : Fin 65536, g r = R.1 ∧ R.2 = BitVec.ofNat 32 r.val := by
    rcases h1 with h1 | h1
    · subst h1
      exact ⟨⟨0, by omega⟩, le_bot_iff.mp (hle ⟨0, by omega⟩), rfl⟩
    · obtain ⟨r, hr⟩ := (hL R).mp h1
      exact ⟨r, by rw [hr], by rw [hr]⟩
  have eM : R.1 = M := le_antisymm (hr ▸ htop r) (hr₁ ▸ hle r₁)
  refine ⟨r.val, r.isLt, ⟨Nat.zero_le _, r.isLt, (hf r).trans (hr.trans eM), fun q _ hq => ?_, fun q _ hq => ?_⟩, hw⟩
  · exact (hf ⟨q, hq⟩).trans_le (htop ⟨q, hq⟩)
  · have hq' : q < 65536 := hq.trans r.isLt
    refine lt_of_le_of_ne ((hf ⟨q, hq'⟩).trans_le (htop ⟨q, hq'⟩)) fun h => ?_
    have h := hfst ⟨q, hq'⟩ (((hf ⟨q, hq'⟩).symm.trans h).trans eM.symm)
    rw [hw, row_word r.val r.isLt] at h
    have h : (r.val : ℤ) ≤ (q : ℤ) := h
    omega

/-- For any floats: the reference's argmax is the one reduction of the program. -/
theorem refArg_eq {F : FTy → Type} [FloatOps F] (x : Vec F S65536x1024 .f32) :
    refArg (F := F) x = fun j => (Host.argReduce (reducer_argmax_f32_i32 (F := F)) x (iotaInDim S65536x1024 32 0)
      (constant S_ .f32 0xFF800000#32) (constantI S_ 32 0#32) reducesTo_S65536x1024_S1024_d0 h_S_ j).2 := rfl

/-- The index of a reduction over pairs, as a fold over the pairs of the place, from the pair it starts with. -/
theorem argReduce_snd {s t u : Shape} {axes : List (Fin s.rank)} (f : Ideal .f32 × BitVec 32 → Ideal .f32 × BitVec 32 → Ideal .f32 × BitVec 32)
    (x : FVec Ideal s .f32) (y : s.Idx → BitVec 32) (ix : u.Idx → Ideal .f32) (iy : u.Idx → BitVec 32)
    (h : s.ReducesTo axes t) (hu : 0 < u.numel) (j : t.Idx) (a : Ideal .f32) (b : BitVec 32)
    (ha : ix (Shape.Idx.first hu) = a) (hb : iy (Shape.Idx.first hu) = b) :
    (Host.argReduce f x y ix iy h hu j).2 = ((Host.argReduceFiber x y h j).foldl f (a, b)).2 := by
  rw [Ideal.argReduce_eq_reduce2, Host.reduce2_eq_foldl_fiber, ha, hb]

/-- The reference's argmax, as a fold over the pairs of the column. -/
theorem refArg_apply (x : FVec Ideal S65536x1024 .f32) (j : S1024.Idx) :
    refArg (F := Ideal) x j = ((Host.argReduceFiber x (iotaInDim S65536x1024 32 0) reducesTo_S65536x1024_S1024_d0 j).foldl
      (reducer_argmax_f32_i32 (F := Ideal)) ((⊥ : EReal), 0#32)).2 := by
  have ha := (constant_at (F := Ideal) S_ 0xFF800000#32 (Shape.Idx.first h_S_)).trans neg_inf
  have hb := constantI_at S_ 0#32 (Shape.Idx.first h_S_)
  have h := argReduce_snd (reducer_argmax_f32_i32 (F := Ideal)) x (iotaInDim S65536x1024 32 0) _ _
    reducesTo_S65536x1024_S1024_d0 h_S_ j _ _ ha hb
  rw [refArg_eq]
  exact h

theorem iota_row (r : Fin 65536) (k : Fin 1024) : iotaInDim S65536x1024 32 0 (ix2 r k) = BitVec.ofNat 32 r.val := rfl

/-- The two rows of the reference are, of every column, the greatest entry and the first row that has it. -/
theorem ref_best (x : S65536x1024.Idx → EReal) (k : Fin 1024) (f : ℕ → EReal) (hf : ∀ r : Fin 65536, f r.val = x (ix2 r k)) :
    ∃ n, n < 65536 ∧ Best f 0 65536 (refMax (F := Ideal) x (ix1 k)) n ∧ refArg (F := Ideal) x (ix1 k) = BitVec.ofNat 32 n := by
  obtain ⟨hM, htop⟩ := fold_max_univ fun r : Fin 65536 => x (ix2 r k)
  rw [← refMax_apply] at hM htop
  rw [refArg_apply]
  refine argmax_of_pairs (fun r => x (ix2 r k)) _ hM htop f hf _ fun p => ?_
  rw [mem_fiber]
  simp only [iota_row]

theorem refOut_max (x : S65536x1024.Idx → EReal) (k : Fin 1024) : refOut (F := Ideal) x (ix2 (0 : Fin 2) k) = refMax (F := Ideal) x (ix1 k) := by
  unfold refOut
  pointwise

theorem refOut_arg (x : S65536x1024.Idx → EReal) (k : Fin 1024) :
    refOut (F := Ideal) x (ix2 (1 : Fin 2) k) = (((refArg (F := Ideal) x (ix1 k)).toInt : ℝ) : EReal) := by
  unfold refOut
  pointwise
  rfl

end Cert.ReferenceIdeal.Plain

end
-- ==== Proof.EqI.lean ====
/-
# The values: the kernel's result is the reference's

Both results name, for every column, the greatest entry and the first row that has it.
There is one such entry and one such row, so the results are equal.
-/
module

public import proofs.«01_k».proof.Proof.OutI
public import proofs.«01_k».proof.Proof.RefVal

@[expose] public section

set_option maxRecDepth 16384

noncomputable section

namespace Cert.KernelIdeal.Gather

open Cert.KernelIdeal Cert.KernelIdeal.Gen Cert.ArgMax Cert.ReferenceIdeal.Plain
open Idealize.ShloMosaic Idealize.ShloMosaic.TcCoe

/-- A row's entry of the column is the whole argument's. -/
theorem colOf_row (X : SX.Idx → EReal) (k : Fin 1024) (r : Fin 65536) : colOf X k r.val = X (ix2 r k) := by
  unfold colOf
  congr 2
  exact Fin.ext (Nat.mod_eq_of_lt r.isLt)

/-- The row `n`, read back from its word, is the number `n`. -/
theorem word_num (n : ℕ) (h : n < 65536) : (((BitVec.ofNat 32 n).toInt : ℝ) : EReal) = num n := by
  unfold num
  rw [row_word n h]

/-- Row 0 of the result. -/
theorem outAt_max (m : (ℓ : Loc nD τ sig) → Buf (Elt Ideal) ℓ) (ρ : Dev nD → PrngReg) (c : Dev nD) (k : Fin 1024) :
    outAt m ρ c (ix2 (0 : Fin 2) k) = k0_pay12 (gV m ρ c) (colIx k) := if_pos rfl

/-- Row 1 of the result. -/
theorem outAt_arg (m : (ℓ : Loc nD τ sig) → Buf (Elt Ideal) ℓ) (ρ : Dev nD → PrngReg) (c : Dev nD) (k : Fin 1024) :
    outAt m ρ c (ix2 (1 : Fin 2) k) = k0_pay13 (gV m ρ c) (gI m ρ c) (colIx k) := if_neg Nat.one_ne_zero

/-- What every device's result holds is what the reference's result holds of the whole argument. -/
theorem outAt_eq (m : (ℓ : Loc nD τ sig) → Buf (Elt Ideal) ℓ) (ρ : Dev nD → PrngReg) (X : SX.Idx → EReal)
    (hX : ∀ c : Dev nD, m ((c.tc : Thread nD τ).loc main_arg0) = Layout.block ⟨2, ![8192, 1024]⟩ ⟨2, ![65536, 1024]⟩ 0 8 c X)
    (c : Dev nD) : outAt m ρ c = refOut (F := Ideal) X := by
  funext i
  obtain ⟨a, k, rfl⟩ : ∃ (a : Fin 2) (k : Fin 1024), i = ix2 a k := ⟨i 0, i 1, by funext d; fin_cases d <;> rfl⟩
  obtain ⟨n, hn, en⟩ := out_best m ρ X hX c k
  obtain ⟨n', hlt, hn', en'⟩ := ref_best X k (colOf X k) (colOf_row X k)
  fin_cases a
  · exact (outAt_max m ρ c k).trans ((hn.val_unique hn').trans (refOut_max X k).symm)
  · refine (outAt_arg m ρ c k).trans (en.trans (Eq.trans ?_ (refOut_arg X k).symm))
    rw [en', word_num n' hlt, hn.place_unique hn']

end Cert.KernelIdeal.Gather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RunK
public import proofs.«01_k».proof.Proof.RunI
public import proofs.«01_k».proof.Proof.RefI
public import proofs.«01_k».proof.Proof.EqI
public import Idealize.ShloMosaic.Adequacy
public import Idealize.ShloMosaic.Init

@[expose] public section

noncomputable section

namespace Cert.Proof

open Idealize.ShloMosaic Idealize.SL.Sem Cert.Kernel

/-- The kernel on float words ends, its argument is as it was, every counter is zero. -/
theorem frame_words : Cert.quiescent_Kernel := fun m g _ =>
  (θ_run _ _ _).mono (fun r h => ⟨fun c => (h.1 c (0 : Fin 2)).trans (Cert.Kernel.Gather.finalA_x m g c), h.2⟩)
    (Cert.Kernel.Gather.run_main m g)

/-- The same on extended reals. -/
theorem frame_ideal : Cert.quiescent_KernelIdeal := fun m g _ =>
  (θ_run _ _ _).mono (fun r h => ⟨fun c => (h.1 c (0 : Fin 2)).trans (Cert.KernelIdeal.Gather.finalA_x m g c), h.2⟩)
    (Cert.KernelIdeal.Gather.run_main m g)

/-- The same of the reference. -/
theorem frame_reference : Cert.quiescent_ReferenceIdeal := fun m g _ =>
  (θ_run _ _ _).mono (fun r h => ⟨fun c => (h.1 c).2, h.2⟩) (Cert.ReferenceIdeal.Plain.run_main m g)

/-- On extended reals: from one argument, in blocks of rows on the devices and whole for the reference, every device's
    result ends equal to the reference's. -/
theorem same_values : Cert.algebraic_KernelIdeal_ReferenceIdeal := fun m g m' g' _ hX =>
  ⟨_, (θ_run _ _ _).mono (fun r h c =>
      ⟨(h.1 c (1 : Fin 2)).trans ((Cert.KernelIdeal.Gather.finalA_out m g c).trans (Cert.KernelIdeal.Gather.outAt_eq m g _ hX c)),
        (h.1 c (0 : Fin 2)).trans (Cert.KernelIdeal.Gather.finalA_x m g c)⟩)
      (Cert.KernelIdeal.Gather.run_main m g),
    (θ_run _ _ _).mono (fun r h => h.1 0) (Cert.ReferenceIdeal.Plain.run_main m' g')⟩

theorem claim : Cert.Claim := ⟨Cert.Kernel.Gen.facts, Cert.KernelIdeal.Gen.facts, Cert.ReferenceIdeal.Gen.facts,
  frame_words, frame_ideal, frame_reference, trivial, same_values⟩

end Cert.Proof

end
